-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 2048]⟩ ⟨2, ![512, 2048]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S2x3x128x256 : Shape := ⟨4, ![2, 3, 128, 256]⟩
abbrev S2x128x256 : Shape := ⟨3, ![2, 128, 256]⟩
abbrev S3 : Shape := ⟨1, ![3]⟩
abbrev S2 : Shape := ⟨1, ![2]⟩
abbrev S_ : Shape := ⟨0, ![]⟩
abbrev S2x3 : Shape := ⟨2, ![2, 3]⟩
abbrev S1 : Shape := ⟨1, ![1]⟩
abbrev S512x256 : Shape := ⟨2, ![512, 256]⟩
abbrev S128x256 : Shape := ⟨2, ![128, 256]⟩
abbrev S1x1x128x256 : Shape := ⟨4, ![1, 1, 128, 256]⟩
abbrev S1x1 : Shape := ⟨2, ![1, 1]⟩
abbrev S1x128x256 : Shape := ⟨3, ![1, 128, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S128x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S2x3x128x256, .bf16⟩
  | .local _ .vmem, ⟨4, _⟩ => ⟨S2x3x128x256, .bf16⟩
  | .local _ .vmem, ⟨5, _⟩ => ⟨S2x128x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 2 29 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v23 : BitVec 32 := Scalar.muli v2 c8_i32_10
  let v24 : BitVec 32 := Scalar.addi c0_i32_11 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v25 : BitVec 32 := Scalar.muli v5 c4_i32_12
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_13 : BitVec 32 := 1#32
  let v27 : BitVec 32 := Scalar.muli v22 c1_i32_13
  let v28 : BitVec 32 := Scalar.addi v26 v27
  v28.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v29 : BitVec 32 := Scalar.addi v8 c2_i32_14
  let c4_i32_15 : BitVec 32 := 4#32
  let c0_i32_16 : BitVec 32 := 0#32
  let v30 : BitVec 1 := Scalar.cmpi .eq c4_i32_15 c0_i32_16
  let c1_i32_17 : BitVec 32 := 1#32
  let v31 : BitVec 32 := Scalar.select v30 c1_i32_17 c4_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c1_i32_25 : BitVec 32 := 1#32
  let v44 : BitVec 32 := Scalar.muli v39 c1_i32_25
  let v45 : BitVec 32 := Scalar.addi v43 v44
  v45.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v57 : BitVec 32 := Scalar.muli v2 c8_i32_33
  let v58 : BitVec 32 := Scalar.addi c0_i32_34 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v46 : BitVec 32 := Scalar.addi v8 c3_i32
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_36 : BitVec 32 := 1#32
  let v61 : BitVec 32 := Scalar.muli v56 c1_i32_36
  let v62 : BitVec 32 := Scalar.addi v60 v61
  v62.toNat
def k0_dev4 (d0 : Dev nD) : Nat :=
  let c0_i32_43 : BitVec 32 := 0#32
  let c1_i32_37 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_37 v2
  let c8_i32_42 : BitVec 32 := 8#32
  let v67 : BitVec 32 := Scalar.muli v63 c8_i32_42
  let v68 : BitVec 32 := Scalar.addi c0_i32_43 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v69 : BitVec 32 := Scalar.muli v5 c4_i32_44
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v71 : BitVec 32 := Scalar.muli v8 c1_i32_45
  let v72 : BitVec 32 := Scalar.addi v70 v71
  v72.toNat
def k0_dev5 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v73 : BitVec 32 := Scalar.muli v2 c8_i32_47
  let v74 : BitVec 32 := Scalar.addi c0_i32_48 v73
  let c1_i32_38 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 32 := Scalar.subi c1_i32_38 v5
  let c4_i32_49 : BitVec 32 := 4#32
  let v75 : BitVec 32 := Scalar.muli v64 c4_i32_49
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v77 : BitVec 32 := Scalar.muli v8 c1_i32_50
  let v78 : BitVec 32 := Scalar.addi v76 v77
  v78.toNat
def k0_dev6 (d0 : Dev nD) : Nat :=
  let c0_i32_53 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v65 : BitVec 32 := Scalar.subi c1_i32_39 v2
  let c8_i32_52 : BitVec 32 := 8#32
  let v79 : BitVec 32 := Scalar.muli v65 c8_i32_52
  let v80 : BitVec 32 := Scalar.addi c0_i32_53 v79
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v66 : BitVec 32 := Scalar.subi c1_i32_40 v5
  let c4_i32_54 : BitVec 32 := 4#32
  let v81 : BitVec 32 := Scalar.muli v66 c4_i32_54
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v83 : BitVec 32 := Scalar.muli v8 c1_i32_55
  let v84 : BitVec 32 := Scalar.addi v82 v83
  v84.toNat
def k0_off1 (d0 : Dev nD) (c0_i32_57 : BitVec 32) : Fin 2 → Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v87 : BitVec 32 := Scalar.muli v10 c512_i32
  let v88 : BitVec 32 := Scalar.addi v87 c0_i32_57
  ![0, v88.toNat]
def k0_off2 (d0 : Dev nD) (c1_i32_78 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v113 : BitVec 32 := Scalar.addi v8 c1_i32_78
  let c4_i32_79 : BitVec 32 := 4#32
  let c0_i32_80 : BitVec 32 := 0#32
  let v114 : BitVec 1 := Scalar.cmpi .eq c4_i32_79 c0_i32_80
  let c1_i32_81 : BitVec 32 := 1#32
  let v115 : BitVec 32 := Scalar.select v114 c1_i32_81 c4_i32_79
  let v116 : BitVec 32 := Scalar.remsi v113 v115
  let c0_i32_83 : BitVec 32 := 0#32
  let v118 : BitVec 1 := Scalar.cmpi .slt v116 c0_i32_83
  let c0_i32_84 : BitVec 32 := 0#32
  let v119 : BitVec 1 := Scalar.cmpi .slt v115 c0_i32_84
  let v120 : BitVec 1 := Scalar.xori v118 v119
  let c0_i32_82 : BitVec 32 := 0#32
  let v117 : BitVec 1 := Scalar.cmpi .ne v116 c0_i32_82
  let v121 : BitVec 1 := Scalar.andi v120 v117
  let v122 : BitVec 32 := Scalar.addi v116 v115
  let v123 : BitVec 32 := Scalar.select v121 v122 v116
  let c128_i32 : BitVec 32 := 128#32
  let v124 : BitVec 32 := Scalar.muli v123 c128_i32
  let v125 : Index := Scalar.indexCast v124
  let c0_85 : Index := 0#32
  ![v125.toNat, 0]
def k0_dev7 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v131 : BitVec 32 := Scalar.muli v2 c8_i32_98
  let v132 : BitVec 32 := Scalar.addi c0_i32_99 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v133 : BitVec 32 := Scalar.muli v5 c4_i32_100
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v113 : BitVec 32 := Scalar.addi v8 c1_i32_78
  let c4_i32_79 : BitVec 32 := 4#32
  let c0_i32_80 : BitVec 32 := 0#32
  let v114 : BitVec 1 := Scalar.cmpi .eq c4_i32_79 c0_i32_80
  let c1_i32_81 : BitVec 32 := 1#32
  let v115 : BitVec 32 := Scalar.select v114 c1_i32_81 c4_i32_79
  let v116 : BitVec 32 := Scalar.remsi v113 v115
  let c0_i32_83 : BitVec 32 := 0#32
  let v118 : BitVec 1 := Scalar.cmpi .slt v116 c0_i32_83
  let c0_i32_84 : BitVec 32 := 0#32
  let v119 : BitVec 1 := Scalar.cmpi .slt v115 c0_i32_84
  let v120 : BitVec 1 := Scalar.xori v118 v119
  let c0_i32_82 : BitVec 32 := 0#32
  let v117 : BitVec 1 := Scalar.cmpi .ne v116 c0_i32_82
  let v121 : BitVec 1 := Scalar.andi v120 v117
  let v122 : BitVec 32 := Scalar.addi v116 v115
  let v123 : BitVec 32 := Scalar.select v121 v122 v116
  let c1_i32_101 : BitVec 32 := 1#32
  let v135 : BitVec 32 := Scalar.muli v123 c1_i32_101
  let v136 : BitVec 32 := Scalar.addi v134 v135
  v136.toNat
def k0_dev8 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v163 : BitVec 32 := Scalar.muli v2 c8_i32_126
  let v164 : BitVec 32 := Scalar.addi c0_i32_127 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v165 : BitVec 32 := Scalar.muli v5 c4_i32_128
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let v145 : BitVec 32 := Scalar.addi v8 c2_i32_106
  let c4_i32_107 : BitVec 32 := 4#32
  let c0_i32_108 : BitVec 32 := 0#32
  let v146 : BitVec 1 := Scalar.cmpi .eq c4_i32_107 c0_i32_108
  let c1_i32_109 : BitVec 32 := 1#32
  let v147 : BitVec 32 := Scalar.select v146 c1_i32_109 c4_i32_107
  let v148 : BitVec 32 := Scalar.remsi v145 v147
  let c0_i32_111 : BitVec 32 := 0#32
  let v150 : BitVec 1 := Scalar.cmpi .slt v148 c0_i32_111
  let c0_i32_112 : BitVec 32 := 0#32
  let v151 : BitVec 1 := Scalar.cmpi .slt v147 c0_i32_112
  let v152 : BitVec 1 := Scalar.xori v150 v151
  let c0_i32_110 : BitVec 32 := 0#32
  let v149 : BitVec 1 := Scalar.cmpi .ne v148 c0_i32_110
  let v153 : BitVec 1 := Scalar.andi v152 v149
  let v154 : BitVec 32 := Scalar.addi v148 v147
  let v155 : BitVec 32 := Scalar.select v153 v154 v148
  let c1_i32_129 : BitVec 32 := 1#32
  let v167 : BitVec 32 := Scalar.muli v155 c1_i32_129
  let v168 : BitVec 32 := Scalar.addi v166 v167
  v168.toNat
def k0_dev9 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v195 : BitVec 32 := Scalar.muli v2 c8_i32_154
  let v196 : BitVec 32 := Scalar.addi c0_i32_155 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v197 : BitVec 32 := Scalar.muli v5 c4_i32_156
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_134 : BitVec 32 := 3#32
  let v177 : BitVec 32 := Scalar.addi v8 c3_i32_134
  let c4_i32_135 : BitVec 32 := 4#32
  let c0_i32_136 : BitVec 32 := 0#32
  let v178 : BitVec 1 := Scalar.cmpi .eq c4_i32_135 c0_i32_136
  let c1_i32_137 : BitVec 32 := 1#32
  let v179 : BitVec 32 := Scalar.select v178 c1_i32_137 c4_i32_135
  let v180 : BitVec 32 := Scalar.remsi v177 v179
  let c0_i32_139 : BitVec 32 := 0#32
  let v182 : BitVec 1 := Scalar.cmpi .slt v180 c0_i32_139
  let c0_i32_140 : BitVec 32 := 0#32
  let v183 : BitVec 1 := Scalar.cmpi .slt v179 c0_i32_140
  let v184 : BitVec 1 := Scalar.xori v182 v183
  let c0_i32_138 : BitVec 32 := 0#32
  let v181 : BitVec 1 := Scalar.cmpi .ne v180 c0_i32_138
  let v185 : BitVec 1 := Scalar.andi v184 v181
  let v186 : BitVec 32 := Scalar.addi v180 v179
  let v187 : BitVec 32 := Scalar.select v185 v186 v180
  let c1_i32_157 : BitVec 32 := 1#32
  let v199 : BitVec 32 := Scalar.muli v187 c1_i32_157
  let v200 : BitVec 32 := Scalar.addi v198 v199
  v200.toNat
def k0_off3 (d0 : Dev nD) (c1_i32_170 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v219 : BitVec 32 := Scalar.addi v8 c1_i32_170
  let c4_i32_171 : BitVec 32 := 4#32
  let c0_i32_172 : BitVec 32 := 0#32
  let v220 : BitVec 1 := Scalar.cmpi .eq c4_i32_171 c0_i32_172
  let c1_i32_173 : BitVec 32 := 1#32
  let v221 : BitVec 32 := Scalar.select v220 c1_i32_173 c4_i32_171
  let v222 : BitVec 32 := Scalar.remsi v219 v221
  let c0_i32_175 : BitVec 32 := 0#32
  let v224 : BitVec 1 := Scalar.cmpi .slt v222 c0_i32_175
  let c0_i32_176 : BitVec 32 := 0#32
  let v225 : BitVec 1 := Scalar.cmpi .slt v221 c0_i32_176
  let v226 : BitVec 1 := Scalar.xori v224 v225
  let c0_i32_174 : BitVec 32 := 0#32
  let v223 : BitVec 1 := Scalar.cmpi .ne v222 c0_i32_174
  let v227 : BitVec 1 := Scalar.andi v226 v223
  let v228 : BitVec 32 := Scalar.addi v222 v221
  let v229 : BitVec 32 := Scalar.select v227 v228 v222
  let c128_i32_177 : BitVec 32 := 128#32
  let v230 : BitVec 32 := Scalar.muli v229 c128_i32_177
  let v231 : Index := Scalar.indexCast v230
  let c256_178 : Index := 256#32
  ![v231.toNat, 256]
def k0_dev10 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v237 : BitVec 32 := Scalar.muli v2 c8_i32_191
  let v238 : BitVec 32 := Scalar.addi c0_i32_192 v237
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v239 : BitVec 32 := Scalar.muli v5 c4_i32_193
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v219 : BitVec 32 := Scalar.addi v8 c1_i32_170
  let c4_i32_171 : BitVec 32 := 4#32
  let c0_i32_172 : BitVec 32 := 0#32
  let v220 : BitVec 1 := Scalar.cmpi .eq c4_i32_171 c0_i32_172
  let c1_i32_173 : BitVec 32 := 1#32
  let v221 : BitVec 32 := Scalar.select v220 c1_i32_173 c4_i32_171
  let v222 : BitVec 32 := Scalar.remsi v219 v221
  let c0_i32_175 : BitVec 32 := 0#32
  let v224 : BitVec 1 := Scalar.cmpi .slt v222 c0_i32_175
  let c0_i32_176 : BitVec 32 := 0#32
  let v225 : BitVec 1 := Scalar.cmpi .slt v221 c0_i32_176
  let v226 : BitVec 1 := Scalar.xori v224 v225
  let c0_i32_174 : BitVec 32 := 0#32
  let v223 : BitVec 1 := Scalar.cmpi .ne v222 c0_i32_174
  let v227 : BitVec 1 := Scalar.andi v226 v223
  let v228 : BitVec 32 := Scalar.addi v222 v221
  let v229 : BitVec 32 := Scalar.select v227 v228 v222
  let c1_i32_194 : BitVec 32 := 1#32
  let v241 : BitVec 32 := Scalar.muli v229 c1_i32_194
  let v242 : BitVec 32 := Scalar.addi v240 v241
  v242.toNat
def k0_dev11 (d0 : Dev nD) : Nat :=
  let c0_i32_221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_220 : BitVec 32 := 8#32
  let v269 : BitVec 32 := Scalar.muli v2 c8_i32_220
  let v270 : BitVec 32 := Scalar.addi c0_i32_221 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v271 : BitVec 32 := Scalar.muli v5 c4_i32_222
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v251 : BitVec 32 := Scalar.addi v8 c2_i32_199
  let c4_i32_200 : BitVec 32 := 4#32
  let c0_i32_201 : BitVec 32 := 0#32
  let v252 : BitVec 1 := Scalar.cmpi .eq c4_i32_200 c0_i32_201
  let c1_i32_202 : BitVec 32 := 1#32
  let v253 : BitVec 32 := Scalar.select v252 c1_i32_202 c4_i32_200
  let v254 : BitVec 32 := Scalar.remsi v251 v253
  let c0_i32_204 : BitVec 32 := 0#32
  let v256 : BitVec 1 := Scalar.cmpi .slt v254 c0_i32_204
  let c0_i32_205 : BitVec 32 := 0#32
  let v257 : BitVec 1 := Scalar.cmpi .slt v253 c0_i32_205
  let v258 : BitVec 1 := Scalar.xori v256 v257
  let c0_i32_203 : BitVec 32 := 0#32
  let v255 : BitVec 1 := Scalar.cmpi .ne v254 c0_i32_203
  let v259 : BitVec 1 := Scalar.andi v258 v255
  let v260 : BitVec 32 := Scalar.addi v254 v253
  let v261 : BitVec 32 := Scalar.select v259 v260 v254
  let c1_i32_223 : BitVec 32 := 1#32
  let v273 : BitVec 32 := Scalar.muli v261 c1_i32_223
  let v274 : BitVec 32 := Scalar.addi v272 v273
  v274.toNat
def k0_dev12 (d0 : Dev nD) : Nat :=
  let c0_i32_250 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_249 : BitVec 32 := 8#32
  let v301 : BitVec 32 := Scalar.muli v2 c8_i32_249
  let v302 : BitVec 32 := Scalar.addi c0_i32_250 v301
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v303 : BitVec 32 := Scalar.muli v5 c4_i32_251
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_228 : BitVec 32 := 3#32
  let v283 : BitVec 32 := Scalar.addi v8 c3_i32_228
  let c4_i32_229 : BitVec 32 := 4#32
  let c0_i32_230 : BitVec 32 := 0#32
  let v284 : BitVec 1 := Scalar.cmpi .eq c4_i32_229 c0_i32_230
  let c1_i32_231 : BitVec 32 := 1#32
  let v285 : BitVec 32 := Scalar.select v284 c1_i32_231 c4_i32_229
  let v286 : BitVec 32 := Scalar.remsi v283 v285
  let c0_i32_233 : BitVec 32 := 0#32
  let v288 : BitVec 1 := Scalar.cmpi .slt v286 c0_i32_233
  let c0_i32_234 : BitVec 32 := 0#32
  let v289 : BitVec 1 := Scalar.cmpi .slt v285 c0_i32_234
  let v290 : BitVec 1 := Scalar.xori v288 v289
  let c0_i32_232 : BitVec 32 := 0#32
  let v287 : BitVec 1 := Scalar.cmpi .ne v286 c0_i32_232
  let v291 : BitVec 1 := Scalar.andi v290 v287
  let v292 : BitVec 32 := Scalar.addi v286 v285
  let v293 : BitVec 32 := Scalar.select v291 v292 v286
  let c1_i32_252 : BitVec 32 := 1#32
  let v305 : BitVec 32 := Scalar.muli v293 c1_i32_252
  let v306 : BitVec 32 := Scalar.addi v304 v305
  v306.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_309 : BitVec 32 := 128#32
  let v355 : BitVec 32 := Scalar.muli v8 c128_i32_309
  let v356 : Index := Scalar.indexCast v355
  let c0_310 : Index := 0#32
  ![v356.toNat, 0]
def k0_off5 (d0 : Dev nD) (c0_i32_329 : BitVec 32) : Fin 2 → Nat :=
  let c0_i32_339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_328 : BitVec 32 := 512#32
  let v374 : BitVec 32 := Scalar.muli v10 c512_i32_328
  let v375 : BitVec 32 := Scalar.addi v374 c0_i32_329
  ![0, v375.toNat]
def k0_dev13 (d0 : Dev nD) : Nat :=
  let c0_i32_336 : BitVec 32 := 0#32
  let c1_i32_257 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v315 : BitVec 32 := Scalar.subi c1_i32_257 v2
  let c8_i32_335 : BitVec 32 := 8#32
  let v376 : BitVec 32 := Scalar.muli v315 c8_i32_335
  let v377 : BitVec 32 := Scalar.addi c0_i32_336 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v378 : BitVec 32 := Scalar.muli v5 c4_i32_337
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v380 : BitVec 32 := Scalar.muli v8 c1_i32_338
  let v381 : BitVec 32 := Scalar.addi v379 v380
  v381.toNat
def k0_dev14 (d0 : Dev nD) : Nat :=
  let c0_i32_350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_349 : BitVec 32 := 8#32
  let v391 : BitVec 32 := Scalar.muli v2 c8_i32_349
  let v392 : BitVec 32 := Scalar.addi c0_i32_350 v391
  let c1_i32_258 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v316 : BitVec 32 := Scalar.subi c1_i32_258 v5
  let c4_i32_351 : BitVec 32 := 4#32
  let v393 : BitVec 32 := Scalar.muli v316 c4_i32_351
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v395 : BitVec 32 := Scalar.muli v8 c1_i32_352
  let v396 : BitVec 32 := Scalar.addi v394 v395
  v396.toNat
def k0_dev15 (d0 : Dev nD) : Nat :=
  let c0_i32_364 : BitVec 32 := 0#32
  let c1_i32_259 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v317 : BitVec 32 := Scalar.subi c1_i32_259 v2
  let c8_i32_363 : BitVec 32 := 8#32
  let v406 : BitVec 32 := Scalar.muli v317 c8_i32_363
  let v407 : BitVec 32 := Scalar.addi c0_i32_364 v406
  let c1_i32_260 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v318 : BitVec 32 := Scalar.subi c1_i32_260 v5
  let c4_i32_365 : BitVec 32 := 4#32
  let v408 : BitVec 32 := Scalar.muli v318 c4_i32_365
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v410 : BitVec 32 := Scalar.muli v8 c1_i32_366
  let v411 : BitVec 32 := Scalar.addi v409 v410
  v411.toNat
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_425 : BitVec 32 := 128#32
  let v462 : BitVec 32 := Scalar.muli v8 c128_i32_425
  let v463 : Index := Scalar.indexCast v462
  let c256_426 : Index := 256#32
  ![v463.toNat, 256]
def k0_dev16 (d0 : Dev nD) : Nat :=
  let c0_i32_450 : BitVec 32 := 0#32
  let c1_i32_257 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v315 : BitVec 32 := Scalar.subi c1_i32_257 v2
  let c8_i32_449 : BitVec 32 := 8#32
  let v483 : BitVec 32 := Scalar.muli v315 c8_i32_449
  let v484 : BitVec 32 := Scalar.addi c0_i32_450 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_451 : BitVec 32 := 4#32
  let v485 : BitVec 32 := Scalar.muli v5 c4_i32_451
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_452 : BitVec 32 := 1#32
  let v487 : BitVec 32 := Scalar.muli v8 c1_i32_452
  let v488 : BitVec 32 := Scalar.addi v486 v487
  v488.toNat
def k0_dev17 (d0 : Dev nD) : Nat :=
  let c0_i32_464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_463 : BitVec 32 := 8#32
  let v498 : BitVec 32 := Scalar.muli v2 c8_i32_463
  let v499 : BitVec 32 := Scalar.addi c0_i32_464 v498
  let c1_i32_258 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v316 : BitVec 32 := Scalar.subi c1_i32_258 v5
  let c4_i32_465 : BitVec 32 := 4#32
  let v500 : BitVec 32 := Scalar.muli v316 c4_i32_465
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_466 : BitVec 32 := 1#32
  let v502 : BitVec 32 := Scalar.muli v8 c1_i32_466
  let v503 : BitVec 32 := Scalar.addi v501 v502
  v503.toNat
def k0_dev18 (d0 : Dev nD) : Nat :=
  let c0_i32_478 : BitVec 32 := 0#32
  let c1_i32_259 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v317 : BitVec 32 := Scalar.subi c1_i32_259 v2
  let c8_i32_477 : BitVec 32 := 8#32
  let v513 : BitVec 32 := Scalar.muli v317 c8_i32_477
  let v514 : BitVec 32 := Scalar.addi c0_i32_478 v513
  let c1_i32_260 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v318 : BitVec 32 := Scalar.subi c1_i32_260 v5
  let c4_i32_479 : BitVec 32 := 4#32
  let v515 : BitVec 32 := Scalar.muli v318 c4_i32_479
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v517 : BitVec 32 := Scalar.muli v8 c1_i32_480
  let v518 : BitVec 32 := Scalar.addi v516 v517
  v518.toNat
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S512x2048, .f32⟩
  | .hbm, ⟨4, _⟩ => ⟨S512x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
# The mesh, the semaphores and the order of a device's synchronisations

Device `c` of the 2 x 2 x 4 mesh sits at `(c / 8, c / 4 % 2, c % 4)`. It exchanges partial sums with the
three other devices of its `z` line and reduced pieces with the three other devices of its `x, y` plane.
This module names those peers, the semaphores, and lists in program order what the body does with
semaphores (`script`): the signals, the transfers and the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Pipeline.CollectiveSegs
public import Idealize.ShloMosaic.Lib.MemrefSat
public import Idealize.ShloMosaic.Lib.Tactic

@[expose] public section

noncomputable section

namespace Cert.KProof

open Cert.KernelIdeal Cert.KernelIdeal.Gen

open Idealize.ShloMosaic
open Idealize.ShloMosaic.TcCoe

/-! ## Peers -/

/-- The device `o + 1` places further along the `z` line. -/
def zpF (o : Fin 3) (c : Dev nD) : Dev nD :=
  ⟨(4 * (c.val / 4) + (c.val % 4 + o.val + 1) % 4) % 16, Nat.mod_lt _ (by decide)⟩
theorem zpF_inv : ∀ (o : Fin 3) (c : Dev nD), zpF (2 - o) (zpF o c) = c := by decide +kernel
theorem zpF_inv' : ∀ (o : Fin 3) (c : Dev nD), zpF o (zpF (2 - o) c) = c := by decide +kernel
def zp (o : Fin 3) : Dev nD ≃ Dev nD := ⟨zpF o, zpF (2 - o), zpF_inv o, zpF_inv' o⟩

/-- The three other devices of the plane: the other `x`, the other `y`, both. -/
def xyF (k : Fin 3) (c : Dev nD) : Dev nD :=
  match k with
  | 0 => ⟨(c.val + 8) % 16, Nat.mod_lt _ (by decide)⟩
  | 1 => ⟨(8 * (c.val / 8) + (c.val + 4) % 8) % 16, Nat.mod_lt _ (by decide)⟩
  | 2 => ⟨(8 * ((c.val / 8 + 1) % 2) + (c.val + 4) % 8) % 16, Nat.mod_lt _ (by decide)⟩
theorem xyF_inv : ∀ (k : Fin 3) (c : Dev nD), xyF k (xyF k c) = c := by decide +kernel
def xyp (k : Fin 3) : Dev nD ≃ Dev nD := ⟨xyF k, xyF k, xyF_inv k, xyF_inv k⟩

theorem zp_symm (o : Fin 3) (c : Dev nD) : (zp o).symm c = zp (2 - o) c := rfl
theorem zp_zp (o : Fin 3) (c : Dev nD) : zp (2 - o) (zp o c) = c := zpF_inv o c
theorem zp_zp' (o : Fin 3) (c : Dev nD) : zp o (zp (2 - o) c) = c := zpF_inv' o c
theorem xyp_xyp (k : Fin 3) (c : Dev nD) : xyp k (xyp k c) = c := xyF_inv k c
theorem xyp_symm (k : Fin 3) (c : Dev nD) : (xyp k).symm c = xyp k c := rfl

/-! The devices the kernel's address computations name. -/

theorem dev1_eq : ∀ c : Dev nD, (⟨k0_dev1 c, k0_dev1_lt c⟩ : Dev nD) = zp 0 c := by decide +kernel
theorem dev2_eq : ∀ c : Dev nD, (⟨k0_dev2 c, k0_dev2_lt c⟩ : Dev nD) = zp 1 c := by decide +kernel
theorem dev3_eq : ∀ c : Dev nD, (⟨k0_dev3 c, k0_dev3_lt c⟩ : Dev nD) = zp 2 c := by decide +kernel
theorem dev4_eq : ∀ c : Dev nD, (⟨k0_dev4 c, k0_dev4_lt c⟩ : Dev nD) = xyp 0 c := by decide +kernel
theorem dev5_eq : ∀ c : Dev nD, (⟨k0_dev5 c, k0_dev5_lt c⟩ : Dev nD) = xyp 1 c := by decide +kernel
theorem dev6_eq : ∀ c : Dev nD, (⟨k0_dev6 c, k0_dev6_lt c⟩ : Dev nD) = xyp 2 c := by decide +kernel
theorem dev7_eq : ∀ c : Dev nD, (⟨k0_dev7 c, k0_dev7_lt c⟩ : Dev nD) = zp 0 c := by decide +kernel
theorem dev8_eq : ∀ c : Dev nD, (⟨k0_dev8 c, k0_dev8_lt c⟩ : Dev nD) = zp 1 c := by decide +kernel
theorem dev9_eq : ∀ c : Dev nD, (⟨k0_dev9 c, k0_dev9_lt c⟩ : Dev nD) = zp 2 c := by decide +kernel
theorem dev10_eq : ∀ c : Dev nD, (⟨k0_dev10 c, k0_dev10_lt c⟩ : Dev nD) = zp 0 c := by decide +kernel
theorem dev11_eq : ∀ c : Dev nD, (⟨k0_dev11 c, k0_dev11_lt c⟩ : Dev nD) = zp 1 c := by decide +kernel
theorem dev12_eq : ∀ c : Dev nD, (⟨k0_dev12 c, k0_dev12_lt c⟩ : Dev nD) = zp 2 c := by decide +kernel
theorem dev13_eq : ∀ c : Dev nD, (⟨k0_dev13 c, k0_dev13_lt c⟩ : Dev nD) = xyp 0 c := by decide +kernel
theorem dev14_eq : ∀ c : Dev nD, (⟨k0_dev14 c, k0_dev14_lt c⟩ : Dev nD) = xyp 1 c := by decide +kernel
theorem dev15_eq : ∀ c : Dev nD, (⟨k0_dev15 c, k0_dev15_lt c⟩ : Dev nD) = xyp 2 c := by decide +kernel
theorem dev16_eq : ∀ c : Dev nD, (⟨k0_dev16 c, k0_dev16_lt c⟩ : Dev nD) = xyp 0 c := by decide +kernel
theorem dev17_eq : ∀ c : Dev nD, (⟨k0_dev17 c, k0_dev17_lt c⟩ : Dev nD) = xyp 1 c := by decide +kernel
theorem dev18_eq : ∀ c : Dev nD, (⟨k0_dev18 c, k0_dev18_lt c⟩ : Dev nD) = xyp 2 c := by decide +kernel

/-! The rectangles' offsets. -/

/-- Where device `c`'s columns start, in the operand and in the result. -/
abbrev colO (c : Dev nD) (s : Fin 2) : ℕ := 512 * (c.val / 4) + 256 * s.val

theorem off1_eq : ∀ (c : Dev nD) (s : Fin 2), k0_off1 c (BitVec.ofNat 32 (256 * s.val)) = ![0, colO c s] := by decide +kernel
theorem off5_eq : ∀ (c : Dev nD) (s : Fin 2), k0_off5 c (BitVec.ofNat 32 (256 * s.val)) = ![0, colO c s] := by decide +kernel
theorem off2_eq : ∀ (c : Dev nD) (o : Fin 3), k0_off2 c (BitVec.ofNat 32 (o.val + 1)) = ![128 * ((zp o c).val % 4), 0] := by decide +kernel
theorem off3_eq : ∀ (c : Dev nD) (o : Fin 3), k0_off3 c (BitVec.ofNat 32 (o.val + 1)) = ![128 * ((zp o c).val % 4), 256] := by decide +kernel
theorem off4_eq : ∀ c : Dev nD, k0_off4 c = ![128 * (c.val % 4), 0] := by decide +kernel
theorem off6_eq : ∀ c : Dev nD, k0_off6 c = ![128 * (c.val % 4), 256] := by decide +kernel

/-! ## Semaphores -/

/-- The semaphores' roles: the local copies in, the local copies out, and for the two exchanges the
    send and the receive side, per half and peer. -/
inductive Role where
  | cp (i : Fin 3) | own (s : Fin 2)
  | bs (s : Fin 2) (o : Fin 3) | br (s : Fin 2) (o : Fin 3)
  | cs (s : Fin 2) (k : Fin 3) | cr (s : Fin 2) (k : Fin 3)
deriving DecidableEq

/-- The DMA semaphore of a role. -/
def sm : Role → DmaSem sig
  | .cp i => ⟨i.val, by have := i.isLt; show _ < 29; omega⟩
  | .own s => ⟨3 + s.val, by have := s.isLt; show _ < 29; omega⟩
  | .bs s o => ⟨5 + (3 * s.val + o.val), by have := s.isLt; have := o.isLt; show _ < 29; omega⟩
  | .br s o => ⟨11 + (3 * s.val + o.val), by have := s.isLt; have := o.isLt; show _ < 29; omega⟩
  | .cs s o => ⟨17 + (3 * s.val + o.val), by have := s.isLt; have := o.isLt; show _ < 29; omega⟩
  | .cr s o => ⟨23 + (3 * s.val + o.val), by have := s.isLt; have := o.isLt; show _ < 29; omega⟩

/-- The role of a DMA semaphore. -/
def role (q : DmaSem sig) : Role :=
  if q.val < 3 then .cp ⟨q.val % 3, Nat.mod_lt _ (by decide)⟩
  else if q.val < 5 then .own ⟨(q.val - 3) % 2, Nat.mod_lt _ (by decide)⟩
  else if q.val < 11 then .bs ⟨(q.val - 5) / 3 % 2, Nat.mod_lt _ (by decide)⟩ ⟨(q.val - 5) % 3, Nat.mod_lt _ (by decide)⟩
  else if q.val < 17 then .br ⟨(q.val - 11) / 3 % 2, Nat.mod_lt _ (by decide)⟩ ⟨(q.val - 11) % 3, Nat.mod_lt _ (by decide)⟩
  else if q.val < 23 then .cs ⟨(q.val - 17) / 3 % 2, Nat.mod_lt _ (by decide)⟩ ⟨(q.val - 17) % 3, Nat.mod_lt _ (by decide)⟩
  else .cr ⟨(q.val - 23) / 3 % 2, Nat.mod_lt _ (by decide)⟩ ⟨(q.val - 23) % 3, Nat.mod_lt _ (by decide)⟩

theorem role_sm (r : Role) : role (sm r) = r := by
  rcases r with i | s | ⟨s, o⟩ | ⟨s, o⟩ | ⟨s, o⟩ | ⟨s, o⟩
  · revert i; decide
  · revert s; decide
  all_goals (revert s o; decide)

/-- The handshake semaphore of the `z` line (the runtime's barrier) and the one of the `x, y` plane. -/
abbrev barS : Sem sig := (1 : Fin 2)
abbrev xyS : Sem sig := (0 : Fin 2)

/-- What one transfer credits its semaphore, by the transfer's shape. -/
def amtR : Role → ℕ
  | .cp 0 => RefSig.tileCredit S512x512 .f32
  | .cp _ => RefSig.tileCredit S512x256 .f32
  | _ => RefSig.tileCredit S128x256 .bf16

theorem amtR_pos (r : Role) : 0 < amtR r := by
  unfold amtR; split <;> exact RefSig.tileCredit_pos _ _ (by decide)

/-- What one duty credits a semaphore. -/
def amt : SemLoc sig → ℕ
  | .reg _ => 1
  | .dma q => amtR (role q)

/-- What a whole round credits. -/
def tot : SemLoc sig → ℕ
  | .reg _ => 3
  | .dma q => amtR (role q)

theorem amt_dma (r : Role) : amt (.dma (sm r)) = amtR r := by show amtR (role (sm r)) = _; rw [role_sm]
theorem tot_dma (r : Role) : tot (.dma (sm r)) = amtR r := by show amtR (role (sm r)) = _; rw [role_sm]

/-- The order in which semaphores are waited for: a wait happens only while what is still owed is higher. -/
def lvS : SemLoc sig → ℕ
  | .reg _ => 1
  | .dma q => match role q with
    | .br _ _ => 2
    | .cr _ _ => 3
    | _ => 0

/-! ## The script -/

/-- What a body does with semaphores: signal a peer's handshake (under a duty's name), start a transfer to a
    peer, start a local copy, wait. -/
inductive Ev where
  | sig (e : Dev nD ≃ Dev nD) (s : Sem sig) (d : Fin 3)
  | send (e : Dev nD ≃ Dev nD) (rS rR : Role)
  | copy (r : Role)
  /-- for a semaphore whose credit was dealt at launch -/
  | waitL (s : SemLoc sig)
  /-- for a semaphore the device's own transfer credits -/
  | wait (r : Role)

abbrev Key : Type := SemLoc sig × Fin 3

/-- The duty tokens an event uses up, each with the map from the paying device to the cell's. -/
def keyT : Ev → List ((Dev nD ≃ Dev nD) × Key)
  | .sig e s d => [(e, .reg s, d)]
  | .send e rS rR => [(Equiv.refl _, .dma (sm rS), 0), (e, .dma (sm rR), 0)]
  | .copy r => [(Equiv.refl _, .dma (sm r), 0)]
  | _ => []
/-- The positions an event uses up. -/
def keyP : Ev → List (SemLoc sig)
  | .waitL s => [s]
  | .wait r => [.dma (sm r)]
  | _ => []
/-- The launch credits an event uses up. -/
def keyC : Ev → List (SemLoc sig)
  | .waitL s => [s]
  | _ => []
/-- What an event pays on a peer's cell. -/
def keyO : Ev → List ((Dev nD ≃ Dev nD) × SemLoc sig)
  | .sig e s _ => [(e, .reg s)]
  | .send e _ rR => [(e, .dma (sm rR))]
  | _ => []

def scr7 : List Ev :=
  [.wait (.own 0), .wait (.own 1),
   .wait (.bs 0 0), .wait (.bs 0 1), .wait (.bs 0 2), .wait (.bs 1 0), .wait (.bs 1 1), .wait (.bs 1 2),
   .wait (.cs 0 0), .wait (.cs 0 1), .wait (.cs 0 2), .wait (.cs 1 0), .wait (.cs 1 1), .wait (.cs 1 2)]
def scr6 : List Ev :=
  .waitL (.dma (sm (.cr 0 0))) :: .waitL (.dma (sm (.cr 0 1))) :: .waitL (.dma (sm (.cr 0 2))) ::
  .waitL (.dma (sm (.cr 1 0))) :: .waitL (.dma (sm (.cr 1 1))) :: .waitL (.dma (sm (.cr 1 2))) :: scr7
def scr5 : List Ev :=
  .waitL (.dma (sm (.br 1 0))) :: .waitL (.dma (sm (.br 1 1))) :: .waitL (.dma (sm (.br 1 2))) ::
  .send (xyp 0) (.cs 1 0) (.cr 1 0) :: .send (xyp 1) (.cs 1 1) (.cr 1 1) :: .send (xyp 2) (.cs 1 2) (.cr 1 2) ::
  .copy (.own 1) :: scr6
def scr4 : List Ev :=
  .waitL (.dma (sm (.br 0 0))) :: .waitL (.dma (sm (.br 0 1))) :: .waitL (.dma (sm (.br 0 2))) :: .waitL (.reg xyS) ::
  .send (xyp 0) (.cs 0 0) (.cr 0 0) :: .send (xyp 1) (.cs 0 1) (.cr 0 1) :: .send (xyp 2) (.cs 0 2) (.cr 0 2) ::
  .copy (.own 0) :: scr5
def scr3 : List Ev :=
  .wait (.cp 2) ::
  .send (zp 0) (.bs 1 0) (.br 1 0) :: .send (zp 1) (.bs 1 1) (.br 1 1) :: .send (zp 2) (.bs 1 2) (.br 1 2) :: scr4
def scr2 : List Ev :=
  .send (zp 0) (.bs 0 0) (.br 0 0) :: .send (zp 1) (.bs 0 1) (.br 0 1) :: .send (zp 2) (.bs 0 2) (.br 0 2) :: scr3
def scr1 : List Ev :=
  .copy (.cp 2) :: .wait (.cp 0) :: .wait (.cp 1) :: .waitL (.reg barS) :: scr2
def scr0 : List Ev :=
  .sig (zp 0) barS 0 :: .sig (zp 1) barS 1 :: .sig (zp 2) barS 2 ::
  .sig (xyp 0) xyS 0 :: .sig (xyp 1) xyS 1 :: .sig (xyp 2) xyS 2 ::
  .copy (.cp 0) :: .copy (.cp 1) :: scr1

/-- Everything the events of `l` still pay is above level `n`. -/
def above (n : ℕ) : List Ev → Bool
  | [] => true
  | .sig _ s _ :: l => decide (n < lvS (.reg s)) && above n l
  | .send _ _ rR :: l => decide (n < lvS (.dma (sm rR))) && above n l
  | _ :: l => above n l

theorem above_mem {n : ℕ} {l : List Ev} (h : above n l = true) {k : (Dev nD ≃ Dev nD) × SemLoc sig} (hk : k ∈ l.flatMap keyO) :
    n < lvS k.2 := by
  induction l with
  | nil => simp at hk
  | cons ev l ih =>
    rw [List.flatMap_cons, List.mem_append] at hk
    cases ev <;> simp only [above, Bool.and_eq_true, decide_eq_true_eq] at h <;>
      simp only [keyO, List.mem_singleton, List.not_mem_nil, false_or] at hk
    case sig => rcases hk with rfl | hk; · exact h.1
                exact ih h.2 hk
    case send => rcases hk with rfl | hk; · exact h.1
                 exact ih h.2 hk
    all_goals exact ih h hk

/-! The semaphores as the program names them. -/

theorem sem_bar : (SemArray.scalar (Cert.KernelIdeal.sig.barrier 0 rfl) : Sems Cert.KernelIdeal.sig S_).sem = barS := rfl
theorem sem_xy : (cc0_scratch8 : Sems Cert.KernelIdeal.sig S_).sem = xyS := by decide

theorem sem_cp0 : ((cc0_scratch6.slice (Rect.unit (s := S3) ![0] S1.size inb_S3_S1_0)).squeeze S_ squeezes_S1_S_).sem = sm (.cp 0) := by decide +kernel
theorem sem_cp1 : ((cc0_scratch6.slice (Rect.unit (s := S3) ![1] S1.size inb_S3_S1_1)).squeeze S_ squeezes_S1_S_).sem = sm (.cp 1) := by decide +kernel
theorem sem_cp2 : ((cc0_scratch6.slice (Rect.unit (s := S3) ![2] S1.size inb_S3_S1_2)).squeeze S_ squeezes_S1_S_).sem = sm (.cp 2) := by decide +kernel
theorem sem_own0 : ((cc0_scratch7.slice (Rect.unit (s := S2) ![0] S1.size inb_S2_S1_0)).squeeze S_ squeezes_S1_S_).sem = sm (.own 0) := by decide +kernel
theorem sem_own1 : ((cc0_scratch7.slice (Rect.unit (s := S2) ![1] S1.size inb_S2_S1_1)).squeeze S_ squeezes_S1_S_).sem = sm (.own 1) := by decide +kernel
theorem sem_bs00 : ((cc0_scratch9.slice (Rect.unit (s := S2x3) ![0, 0] S1x1.size inb_S2x3_S1x1_0_0)).squeeze S_ squeezes_S1x1_S_).sem = sm (.bs 0 0) := by decide +kernel
theorem sem_bs01 : ((cc0_scratch9.slice (Rect.unit (s := S2x3) ![0, 1] S1x1.size inb_S2x3_S1x1_0_1)).squeeze S_ squeezes_S1x1_S_).sem = sm (.bs 0 1) := by decide +kernel
theorem sem_bs02 : ((cc0_scratch9.slice (Rect.unit (s := S2x3) ![0, 2] S1x1.size inb_S2x3_S1x1_0_2)).squeeze S_ squeezes_S1x1_S_).sem = sm (.bs 0 2) := by decide +kernel
theorem sem_bs10 : ((cc0_scratch9.slice (Rect.unit (s := S2x3) ![1, 0] S1x1.size inb_S2x3_S1x1_1_0)).squeeze S_ squeezes_S1x1_S_).sem = sm (.bs 1 0) := by decide +kernel
theorem sem_bs11 : ((cc0_scratch9.slice (Rect.unit (s := S2x3) ![1, 1] S1x1.size inb_S2x3_S1x1_1_1)).squeeze S_ squeezes_S1x1_S_).sem = sm (.bs 1 1) := by decide +kernel
theorem sem_bs12 : ((cc0_scratch9.slice (Rect.unit (s := S2x3) ![1, 2] S1x1.size inb_S2x3_S1x1_1_2)).squeeze S_ squeezes_S1x1_S_).sem = sm (.bs 1 2) := by decide +kernel
theorem sem_br00 : ((cc0_scratch10.slice (Rect.unit (s := S2x3) ![0, 0] S1x1.size inb_S2x3_S1x1_0_0)).squeeze S_ squeezes_S1x1_S_).sem = sm (.br 0 0) := by decide +kernel
theorem sem_br01 : ((cc0_scratch10.slice (Rect.unit (s := S2x3) ![0, 1] S1x1.size inb_S2x3_S1x1_0_1)).squeeze S_ squeezes_S1x1_S_).sem = sm (.br 0 1) := by decide +kernel
theorem sem_br02 : ((cc0_scratch10.slice (Rect.unit (s := S2x3) ![0, 2] S1x1.size inb_S2x3_S1x1_0_2)).squeeze S_ squeezes_S1x1_S_).sem = sm (.br 0 2) := by decide +kernel
theorem sem_br10 : ((cc0_scratch10.slice (Rect.unit (s := S2x3) ![1, 0] S1x1.size inb_S2x3_S1x1_1_0)).squeeze S_ squeezes_S1x1_S_).sem = sm (.br 1 0) := by decide +kernel
theorem sem_br11 : ((cc0_scratch10.slice (Rect.unit (s := S2x3) ![1, 1] S1x1.size inb_S2x3_S1x1_1_1)).squeeze S_ squeezes_S1x1_S_).sem = sm (.br 1 1) := by decide +kernel
theorem sem_br12 : ((cc0_scratch10.slice (Rect.unit (s := S2x3) ![1, 2] S1x1.size inb_S2x3_S1x1_1_2)).squeeze S_ squeezes_S1x1_S_).sem = sm (.br 1 2) := by decide +kernel
theorem sem_cs00 : ((cc0_scratch11.slice (Rect.unit (s := S2x3) ![0, 0] S1x1.size inb_S2x3_S1x1_0_0)).squeeze S_ squeezes_S1x1_S_).sem = sm (.cs 0 0) := by decide +kernel
theorem sem_cs01 : ((cc0_scratch11.slice (Rect.unit (s := S2x3) ![0, 1] S1x1.size inb_S2x3_S1x1_0_1)).squeeze S_ squeezes_S1x1_S_).sem = sm (.cs 0 1) := by decide +kernel
theorem sem_cs02 : ((cc0_scratch11.slice (Rect.unit (s := S2x3) ![0, 2] S1x1.size inb_S2x3_S1x1_0_2)).squeeze S_ squeezes_S1x1_S_).sem = sm (.cs 0 2) := by decide +kernel
theorem sem_cs10 : ((cc0_scratch11.slice (Rect.unit (s := S2x3) ![1, 0] S1x1.size inb_S2x3_S1x1_1_0)).squeeze S_ squeezes_S1x1_S_).sem = sm (.cs 1 0) := by decide +kernel
theorem sem_cs11 : ((cc0_scratch11.slice (Rect.unit (s := S2x3) ![1, 1] S1x1.size inb_S2x3_S1x1_1_1)).squeeze S_ squeezes_S1x1_S_).sem = sm (.cs 1 1) := by decide +kernel
theorem sem_cs12 : ((cc0_scratch11.slice (Rect.unit (s := S2x3) ![1, 2] S1x1.size inb_S2x3_S1x1_1_2)).squeeze S_ squeezes_S1x1_S_).sem = sm (.cs 1 2) := by decide +kernel
theorem sem_cr00 : ((cc0_scratch12.slice (Rect.unit (s := S2x3) ![0, 0] S1x1.size inb_S2x3_S1x1_0_0)).squeeze S_ squeezes_S1x1_S_).sem = sm (.cr 0 0) := by decide +kernel
theorem sem_cr01 : ((cc0_scratch12.slice (Rect.unit (s := S2x3) ![0, 1] S1x1.size inb_S2x3_S1x1_0_1)).squeeze S_ squeezes_S1x1_S_).sem = sm (.cr 0 1) := by decide +kernel
theorem sem_cr02 : ((cc0_scratch12.slice (Rect.unit (s := S2x3) ![0, 2] S1x1.size inb_S2x3_S1x1_0_2)).squeeze S_ squeezes_S1x1_S_).sem = sm (.cr 0 2) := by decide +kernel
theorem sem_cr10 : ((cc0_scratch12.slice (Rect.unit (s := S2x3) ![1, 0] S1x1.size inb_S2x3_S1x1_1_0)).squeeze S_ squeezes_S1x1_S_).sem = sm (.cr 1 0) := by decide +kernel
theorem sem_cr11 : ((cc0_scratch12.slice (Rect.unit (s := S2x3) ![1, 1] S1x1.size inb_S2x3_S1x1_1_1)).squeeze S_ squeezes_S1x1_S_).sem = sm (.cr 1 1) := by decide +kernel
theorem sem_cr12 : ((cc0_scratch12.slice (Rect.unit (s := S2x3) ![1, 2] S1x1.size inb_S2x3_S1x1_1_2)).squeeze S_ squeezes_S1x1_S_).sem = sm (.cr 1 2) := by decide +kernel

end Cert.KProof

end
-- ==== Proof.Sched.lean ====
/-
# The buffers' contents and the schedule of the semaphores

What each device's buffers hold at each stage of the kernel, as functions of the operands at launch, and what
each semaphore cell's round hands to the device that waits for it.
-/
module

public import proofs.«01_k».proof.Proof.Mesh
public import Idealize.ShloMosaic.Lib.Pointwise.Index

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs -/

abbrev xM : Memref sig .tc .hbm S512x512 .f32 := Memref.whole main_arg0
abbrev yM : Memref sig .tc .hbm S512x2048 .f32 := Memref.whole main_arg1
abbrev oM : Memref sig .tc .hbm S128x2048 .bf16 := Memref.whole main_v1
abbrev aM : Memref sig .tc .vmem S512x512 .f32 := Memref.whole cc0_scratch0
abbrev xvM : Memref sig .tc .vmem S512x512 .f32 := Memref.whole cc0_scratch1
abbrev yvM : Memref sig .tc .vmem S512x512 .f32 := Memref.whole cc0_scratch2
abbrev bsM : Memref sig .tc .vmem S2x3x128x256 .bf16 := Memref.whole cc0_scratch3
abbrev brM : Memref sig .tc .vmem S2x3x128x256 .bf16 := Memref.whole cc0_scratch4
abbrev pcM : Memref sig .tc .vmem S2x128x256 .bf16 := Memref.whole cc0_scratch5

theorem inbH : ∀ (s : Fin 2) (a : Fin 2), (![0, 256 * s.val] : Fin 2 → ℕ) a + S512x256.size a ≤ S512x512.size a := by decide
theorem inbB : ∀ (s : Fin 2) (o : Fin 3) (a : Fin 4), (![s.val, o.val, 0, 0] : Fin 4 → ℕ) a + S1x1x128x256.size a ≤ S2x3x128x256.size a := by decide
theorem inbP : ∀ (s : Fin 2) (a : Fin 3), (![s.val, 0, 0] : Fin 3 → ℕ) a + S1x128x256.size a ≤ S2x128x256.size a := by decide

/-- A column half of a 512 x 512 buffer; a slot of the exchange buffers; of the piece buffer. -/
abbrev rH (s : Fin 2) : Rect S512x512 := Rect.unit (s := S512x512) ![0, 256 * s.val] S512x256.size (inbH s)
abbrev rB (s : Fin 2) (o : Fin 3) : Rect S2x3x128x256 := Rect.unit (s := S2x3x128x256) ![s.val, o.val, 0, 0] S1x1x128x256.size (inbB s o)
abbrev rP (s : Fin 2) : Rect S2x128x256 := Rect.unit (s := S2x128x256) ![s.val, 0, 0] S1x128x256.size (inbP s)
/-- Device `c`'s columns of the operand and of the result. -/
abbrev rY (c : Dev nD) (s : Fin 2) : Rect S512x2048 := Rect.unit (s := S512x2048) (k0_off1 c (BitVec.ofNat 32 (256 * s.val))) S512x256.size (k0_off1_inb c s)
abbrev rO (c : Dev nD) (s : Fin 2) : Rect S128x2048 := Rect.unit (s := S128x2048) (k0_off5 c (BitVec.ofNat 32 (256 * s.val))) S128x256.size (k0_off5_inb c s)

abbrev aH (s : Fin 2) : Memref sig .tc .vmem S512x256 .f32 := aM.slice (rH s) (fun _ => rfl)
abbrev yvH (s : Fin 2) : Memref sig .tc .vmem S512x256 .f32 := yvM.slice (rH s) (fun _ => rfl)
abbrev yW (c : Dev nD) (s : Fin 2) : Memref sig .tc .hbm S512x256 .f32 := yM.slice (rY c s) (fun _ => rfl)
abbrev oW (c : Dev nD) (s : Fin 2) : Memref sig .tc .hbm S128x256 .bf16 := oM.slice (rO c s) (fun _ => rfl)
abbrev bsl (s : Fin 2) (o : Fin 3) : Memref sig .tc .vmem S128x256 .bf16 := (bsM.slice (rB s o) (fun _ => rfl)).squeeze S128x256 squeezes_S1x1x128x256_S128x256
abbrev brl (s : Fin 2) (o : Fin 3) : Memref sig .tc .vmem S128x256 .bf16 := (brM.slice (rB s o) (fun _ => rfl)).squeeze S128x256 squeezes_S1x1x128x256_S128x256
abbrev pcl (s : Fin 2) : Memref sig .tc .vmem S128x256 .bf16 := (pcM.slice (rP s) (fun _ => rfl)).squeeze S128x256 squeezes_S1x128x256_S128x256

/-! ## The contents -/

/-- The operands' blocks on device `c` at launch. -/
def xa (c : Dev nD) : S512x512.Idx → Elt F .f32 := m ((c : Thread nD τ).loc main_arg0)
def ya (c : Dev nD) : S512x2048.Idx → Elt F .f32 := m ((c : Thread nD τ).loc main_arg1)
/-- The columns of the second operand that device `c` works on, half by half. -/
def yc (c : Dev nD) (s : Fin 2) : S512x256.Idx → Elt F .f32 := fun j => ya m c ((rY c s).emb j)
/-- Device `c`'s partial product. -/
def dot (c : Dev nD) (s : Fin 2) : S512x256.Idx → Elt F .f32 := k0_pay2 (xa m c) (yc m c s)
/-- 128 rows of a 512-row array. -/
def blk {α : Type} (z : ℕ) (hz : z < 4) (D : S512x256.Idx → α) : S128x256.Idx → α :=
  fun j => D (ix2 ⟨128 * z + (j 0).val, by have : (j 0).val < 128 := (j 0).isLt; omega⟩ (j 1))
abbrev zOf (c : Dev nD) : ℕ := c.val % 4
theorem zOf_lt (c : Dev nD) : zOf c < 4 := Nat.mod_lt _ (by decide)
/-- What device `c` sends to the device `o + 1` places further on its `z` line, and what it receives in slot `o`. -/
def snd (c : Dev nD) (s : Fin 2) (o : Fin 3) : S128x256.Idx → Elt F .bf16 :=
  truncf (s := S128x256) .bf16 (blk (zOf (zp o c)) (zOf_lt _) (dot m c s) : FVec F S128x256 .f32) bitsLt_bf16_f32
def rcv (c : Dev nD) (s : Fin 2) (o : Fin 3) : S128x256.Idx → Elt F .bf16 := snd m (zp (2 - o) c) s o
/-- A block of partial sums and three received ones, added in order and rounded. -/
def sum4 (a : FVec F S128x256 .f32) (r0 r1 r2 : FVec F S128x256 .bf16) : FVec F S128x256 .bf16 :=
  truncf .bf16 (addf (addf (addf a (extf .f32 r0 bitsLt_bf16_f32)) (extf .f32 r1 bitsLt_bf16_f32)) (extf .f32 r2 bitsLt_bf16_f32)) bitsLt_bf16_f32
def piece (c : Dev nD) (s : Fin 2) : S128x256.Idx → Elt F .bf16 :=
  sum4 (blk (zOf c) (zOf_lt _) (dot m c s)) (rcv m c s 0) (rcv m c s 1) (rcv m c s 2)

/-! ## The schedule -/

/-- The part of the piece buffer's share each transfer out of it takes. -/
def shr : Fin 3 → PosShare TreeShare
  | 0 => fullShare.left.left
  | 1 => fullShare.left.right
  | 2 => fullShare.right.left

/-- What a DMA semaphore's credit on device `c` stands for, by the semaphore's role. -/
def payR (c : Dev nD) : Role → sProp 𝕄
  | .cp 0 => iprop(ownsTc c xvM fullShare (xa m c) ∗ ownsTc c xM fullShare (xa m c))
  | .cp 1 => iprop(ownsTc c (yvH 0) fullShare (yc m c 0) ∗ ownsTc c (yW c 0) fullShare.left (yc m c 0))
  | .cp 2 => iprop(ownsTc c (yvH 1) fullShare (yc m c 1) ∗ ownsTc c (yW c 1) fullShare.right (yc m c 1))
  | .own s => iprop(ownsTc c (oW c s) fullShare (piece m c s) ∗ ownsTc c (pcl s) fullShare.right.right (piece m c s))
  | .bs s o => ownsTc c (bsl s o) fullShare (snd m c s o)
  | .br s o => ownsTc c (brl s o) fullShare (snd m (zp (2 - o) c) s o)
  | .cs s k => ownsTc c (pcl s) (shr k) (piece m c s)
  | .cr s k => ownsTc c (oW (xyp k c) s) fullShare (piece m (xyp k c) s)

/-- A memref owned at some contents. -/
abbrev ownsAny (d : Dev nD) {sp : Space} {sh : Shape} {e : EltTy} (r : Memref sig .tc sp sh e) : sProp 𝕄 :=
  iprop(∃ X, ownsTc d r fullShare X)

/-- What the signal under duty `d` hands device `c`: the device it comes from lends the two slots (of the receive
    buffer, of the result) that `c`'s transfers to it will fill. -/
def payS (c : Dev nD) (s : Sem sig) (d : Fin 3) : sProp 𝕄 :=
  if s = barS then iprop(ownsAny (zp (2 - d) c) (brl 0 (2 - d)) ∗ ownsAny (zp (2 - d) c) (brl 1 (2 - d)))
  else iprop(ownsAny (xyp d c) (oW c 0) ∗ ownsAny (xyp d c) (oW c 1))

/-- One round of three unit duties on a regular semaphore, of one duty on a DMA semaphore. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := amt g.2
  payload g _ d := match g.2 with
    | .reg s => payS g.1.1 s d
    | .dma q => payR m g.1.1 (role q)
  amount_pos g _ _ _ := by
    show 0 < amt g.2
    rcases g.2 with s | q
    · exact Nat.one_pos
    · exact amtR_pos _

omit [FloatOps F] in
instance ownsAny_storable (d : Dev nD) {sp : Space} {sh : Shape} {e : EltTy} (r : Memref sig .tc sp sh e) :
    BI.Storable (upEmb : UEmb _ 𝕄) (ownsAny (F := F) d r) := by unfold ownsAny; infer_instance

instance payR_storable (c : Dev nD) (r : Role) : BI.Storable (upEmb : UEmb _ 𝕄) (payR m c r) := by
  unfold payR; split <;> infer_instance
omit [FloatOps F] in
instance payS_storable (c : Dev nD) (s : Sem sig) (d : Fin 3) : BI.Storable (upEmb : UEmb _ 𝕄) (payS (F := F) c s d) := by
  unfold payS; split <;> infer_instance
instance Rd_payload_storable (g : GSem nD τ sig) (r : ℕ) (d : Fin 3) : BI.Storable (upEmb : UEmb _ 𝕄) ((Rd m).payload g r d) := by
  show BI.Storable upEmb (match g.2 with | .reg s => payS g.1.1 s d | .dma q => payR m g.1.1 (role q))
  split <;> infer_instance

section Sched
variable (c : Dev nD)

abbrev cl (c : Dev nD) (s : SemLoc sig) : GSem nD τ sig := ((c : Thread nD τ), s)

theorem duties_reg (s : Sem sig) : (Rd m).duties (cl c (.reg s)) 0 = Finset.univ := by
  dsimp only [Rd]; exact if_pos ⟨rfl, rfl⟩
theorem duties_dma (q : DmaSem sig) : (Rd m).duties (cl c (.dma q)) 0 = {0} := by
  dsimp only [Rd]; exact if_pos ⟨rfl, rfl⟩
theorem duties_later (g : GSem nD τ sig) : ∀ r, 1 ≤ r → (Rd m).duties g r = ∅ :=
  fun r hr => by dsimp only [Rd]; exact if_neg fun h => by omega
theorem amount_eq (s : SemLoc sig) (d : Fin 3) : (Rd m).amount (cl c s) 0 d = amt s := rfl
theorem payload_reg (s : Sem sig) (d : Fin 3) : (Rd m).payload (cl c (.reg s)) 0 d = payS c s d := rfl
theorem payload_dma (r : Role) (d : Fin 3) : (Rd m).payload (cl c (.dma (sm r))) 0 d = payR m c r := by
  show payR m c (role (sm r)) = _; rw [role_sm]

theorem expect_eq (s : SemLoc sig) : (Rd m).expect (cl c s) 0 = tot s := by
  unfold Schedule.expect Schedule.amountOf
  rcases s with s | q
  · rw [duties_reg, Finset.sum_congr rfl fun d _ => amount_eq m c _ d, Finset.sum_const]; rfl
  · rw [duties_dma, Finset.sum_singleton]; rfl

theorem rest_reg (s : Sem sig) : bigSep ((Rd m).duties (cl c (.reg s)) 0 \ ∅) (fun d => (Rd m).payload (cl c (.reg s)) 0 d)
    = iprop(payS c s 0 ∗ payS c s 1 ∗ payS c s 2) := by
  rw [Finset.sdiff_empty, duties_reg, bigSep_univ_eq_bigSepL [0, 1, 2] (by decide) (by decide)]; rfl
theorem rest_dma (r : Role) : bigSep ((Rd m).duties (cl c (.dma (sm r))) 0 \ ∅) (fun d => (Rd m).payload (cl c (.dma (sm r))) 0 d)
    = payR m c r := by
  rw [Finset.sdiff_empty, duties_dma, bigSep_singleton, payload_dma]

end Sched

/-! ## Levels, and what a device owes -/

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (s : SemLoc sig) : L (cl c s) = {()} := if_pos rfl

/-- What device `c` owes for a list of payments, the first payment the last summand. -/
def owed (c : Dev nD) : List ((Dev nD ≃ Dev nD) × SemLoc sig) → CellTallies nD τ sig Unit
  | [] => 0
  | k :: l => owed c l + tallyAt (cl (k.1 c) k.2) () (amt k.2)

theorem owed_pos {c : Dev nD} {l : List ((Dev nD ≃ Dev nD) × SemLoc sig)} {g : GSem nD τ sig} {u : Unit} (h : 0 < owed c l g u) :
    ∃ k ∈ l, g = cl (k.1 c) k.2 := by
  induction l with
  | nil => exact absurd h (Nat.lt_irrefl 0)
  | cons k l ih =>
    unfold owed at h
    rw [Pi.add_apply, Finsupp.add_apply, tallyAt_apply] at h
    by_cases hg : g = cl (k.1 c) k.2
    · exact ⟨k, List.mem_cons_self, hg⟩
    · rw [if_neg (fun h' => hg h'.1), Nat.add_zero] at h
      obtain ⟨k', hk', e⟩ := ih h
      exact ⟨k', List.mem_cons_of_mem _ hk', e⟩

omit [FloatOps F] in
/-- A wait is allowed while everything still owed is at a higher level. -/
theorem mayWait (c : Dev nD) (s : SemLoc sig) (l : List Ev) (h : above (lvS s) l = true) :
    (levAts L lv : sProp 𝕄) ⊢ MayWait (c : Thread nD τ) s () (owed c (l.flatMap keyO)) :=
  MayOwe.of_cut (L := L) (lev := lv) (lvS s)
    (fun p hp => by rw [Finset.mem_singleton.mp hp]; exact (L_tc c s).symm ▸ Finset.mem_singleton_self _)
    (fun g u hg => by obtain ⟨k, -, rfl⟩ := owed_pos hg; exact (L_tc _ _).symm ▸ Finset.mem_singleton_self _)
    (fun p hp => by rw [Finset.mem_singleton.mp hp]; exact le_refl _)
    (fun g u hg => by obtain ⟨k, hk, rfl⟩ := owed_pos hg; exact above_mem h hk)

/-! ## The ghost state a device carries through its script -/

/-- All cells' invariants, and that each has reached its round. -/
def records (K : Dev nD × SemLoc sig → ℕ) : sProp 𝕄 :=
  bigSep Finset.univ fun p : Dev nD × SemLoc sig => iprop(cellInv ER (Rd m) (K p) (cl p.1 p.2) ∗ reached ER (cl p.1 p.2) 0)
instance records_persistent (K : Dev nD × SemLoc sig → ℕ) : BI.Persistent (records m K) := by unfold records; infer_instance

theorem records_get (K : Dev nD × SemLoc sig → ℕ) (c : Dev nD) (s : SemLoc sig) :
    records m K ⊢ iprop(cellInv ER (Rd m) (K (c, s)) (cl c s) ∗ reached ER (cl c s) 0) := by
  unfold records; exact bigSep_elim (i := (c, s)) (Finset.mem_univ _)

/-- Device `c`'s token for a key of its script. -/
def tok (c : Dev nD) (k : (Dev nD ≃ Dev nD) × Key) : sProp 𝕄 := dutyTok ER (cl (k.1 c) k.2.1) 0 k.2.2
def pos (c : Dev nD) (s : SemLoc sig) : sProp 𝕄 := atPos ER (cl c s) 0 ∅ 0
def crd (c : Dev nD) (s : SemLoc sig) : sProp 𝕄 := cred (tallyAt (cl c s) () (tot s))
def zro (c : Dev nD) (s : SemLoc sig) : sProp 𝕄 := semVal (cl c s) 0

/-- Device `c` has the events `l` before it and has closed the cells `dn`. -/
def Core (c : Dev nD) (dn : List (SemLoc sig)) (l : List Ev) : sProp 𝕄 :=
  iprop((∃ K, records m K) ∗ levAts L lv
    ∗ (∃ W, owes (c : Thread nD τ) (owed c (l.flatMap keyO)) W)
    ∗ bigSepL (l.flatMap keyT) (tok c) ∗ bigSepL (l.flatMap keyP) (pos c)
    ∗ bigSepL (l.flatMap keyC) (crd c) ∗ bigSepL dn (zro c))

end Cert.KProof
-- ==== Proof.Steps.lean ====
/-
# One rule per event of the script

Each rule takes the head event off a device's script: its token, position, credit and payment are used up, and
what the event hands over is taken or given.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD) (dn : List (SemLoc sig)) (l : List Ev)

/-! ### Signals and transfers -/

/-- A signal to a peer: it pays one duty with what it hands over. -/
theorem step_signal {α : Type} {Q : α → sProp 𝕄} (e : Dev nD ≃ Dev nD) (s : Sem sig) (d : Fin 3) {n : Dev nD} (hn : n = e c) {q : Sem sig} (hq : q = s)
    {z : ℤ} (hz : z = ((1 : ℕ) : ℤ)) {k : PUnit → Prog (TpuEff nD τ sig (Elt F) Λ₀ .tc) α} :
    iprop(Core m c dn (.sig e s d :: l) ∗ payS (e c) s d)
      ⊢ iprop((Core m c dn l -∗ WP c (k ⟨⟩) Q) -∗ WP c (.op (.semSignal (n : Thread nD τ) q z) k) Q) := by
  subst hn hq hz
  unfold Core
  rw [show (Ev.sig e q d :: l).flatMap keyT = (e, .reg q, d) :: l.flatMap keyT from rfl,
    show (Ev.sig e q d :: l).flatMap keyP = l.flatMap keyP from rfl,
    show (Ev.sig e q d :: l).flatMap keyC = l.flatMap keyC from rfl,
    show (Ev.sig e q d :: l).flatMap keyO = (e, .reg q) :: l.flatMap keyO from rfl, bigSepL_cons']
  iintro ⟨⟨⟨%K, #HR⟩, #Hlev, ⟨%W, HO⟩, ⟨Ht, HT⟩, HP, HC, HZ⟩, Hpay⟩ Hk
  ihave HI := (records_get m K (e c) (.reg q)) $$ HR
  icases HI with ⟨#HI, #Hr⟩
  unfold tok
  iapply (Rounds.wp_signal 𝒱₀ ER (Rd m) (c : Thread nD τ) none (dst := (e c : Thread nD τ)) (κ := K (e c, .reg q))
      (d := d) (by rw [duties_reg]; exact Finset.mem_univ _) (amount_eq m (e c) (.reg q) d) () (owed c (l.flatMap keyO)) rfl)
    $$ [HO Ht Hpay]
  · isplitr; · iexact HI
    isplitl [HO]; · iexact HO
    isplitl [Ht]; · iexact Ht
    isplitl [Hpay]; · rw [payload_reg]; iexact Hpay
    iexact Hr
  iintro HO
  iapply Hk
  isplitr; · iexists K; iexact HR
  isplitr; · iexact Hlev
  isplitl [HO]; · iexists W; iexact HO
  isplitl [HT]; · iexact HT
  isplitl [HP]; · iexact HP
  isplitl [HC]; · iexact HC
  iexact HZ

omit [FloatOps F] in
/-- The elements written through a memref are owned at what was written. -/
theorem owns_written (d : Dev nD) {sp : Space} {sh : Shape} {e : EltTy} (dst : Memref sig .tc sp sh e) {fd : dst.view.ty.Contents (Elt F)}
    {X : sh.Idx → Elt F e} :
    (dst.view.loc (d : Thread nD τ) ↦[dst.view.set]{fullShare} (dst.view.write (Elt F) fd X Finset.univ) : sProp 𝕄)
      ⊢ ownsTc d dst fullShare X := by
  refine (owns_intro (d : Thread nD τ) dst fullShare _).trans ?_
  rw [View.read_write_univ]

/-- A transfer to a peer: the source comes back at the wait for the send, the target is the peer's at its arrival. -/
theorem step_send {α : Type} {Q : α → sProp 𝕄} (e : Dev nD ≃ Dev nD) (rS rR : Role) {n : Dev nD} (hn : n = e c) {qS qR : DmaSem sig} (hqS : qS = sm rS) (hqR : qR = sm rR)
    {sp sp' : Space} {sh : Shape} {et : EltTy} {src : Memref sig .tc sp sh et} {dst : Memref sig .tc sp' sh et}
    (hN : RefSig.tileCredit sh et = amtR rS) (hSR : amtR rS = amtR rR) (q : PosShare TreeShare) (X : sh.Idx → Elt F et)
    (hp₁ : ownsTc c src q X ⊢ payR m c rS) (hp₂ : ownsTc (e c) dst fullShare X ⊢ payR m (e c) rR)
    {hsc : (Memref.view (κ := (Dev.tc n : Thread nD τ).2.kind) dst).ref.isScScratch = false}
    {hsrc : src.view.WordExact} {hdst : dst.view.WordExact}
    {hsem : DmaTarget.Typed sp (.dma qR) (.remote (Dev.tc n : Thread nD τ) dst (.dma qS) hsc)}
    {k : PUnit → Prog (TpuEff nD τ sig (Elt F) Λ₀ .tc) α} :
    iprop(Core m c dn (.send e rS rR :: l) ∗ ownsTc c src q X ∗ ownsAny (e c) dst)
      ⊢ iprop(((Core m c dn l ∗ crd c (.dma (sm rS))) -∗ WP c (k ⟨⟩) Q)
          -∗ WP c (.op (.enqueueDma src (.remote (Dev.tc n : Thread nD τ) dst (.dma qS) hsc) (.dma qR) hsrc hdst hsem) k) Q) := by
  subst hn hqS hqR
  unfold Core
  rw [show (Ev.send e rS rR :: l).flatMap keyT = (Equiv.refl _, .dma (sm rS), 0) :: (e, .dma (sm rR), 0) :: l.flatMap keyT from rfl,
    show (Ev.send e rS rR :: l).flatMap keyP = l.flatMap keyP from rfl,
    show (Ev.send e rS rR :: l).flatMap keyC = l.flatMap keyC from rfl,
    show (Ev.send e rS rR :: l).flatMap keyO = (e, .dma (sm rR)) :: l.flatMap keyO from rfl, bigSepL_cons', bigSepL_cons']
  iintro ⟨⟨⟨%K, #HR⟩, #Hlev, ⟨%W, HO⟩, ⟨Ht₁, Ht₂, HT⟩, HP, HC, HZ⟩, Hs, ⟨%Y, Hd⟩⟩ Hk
  unfold ownsTc owns
  icases Hs with ⟨%fs, %hfs, Hs⟩
  icases Hd with ⟨%fd, -, Hd⟩
  subst hfs
  ihave HI₁ := (records_get m K c (.dma (sm rS))) $$ HR
  icases HI₁ with ⟨#HI₁, #Hr₁⟩
  ihave HI₂ := (records_get m K (e c) (.dma (sm rR))) $$ HR
  icases HI₂ with ⟨#HI₂, #Hr₂⟩
  unfold tok
  iapply (Rounds.wp_send_pointsTo 𝒱₀ ER (Rd m) (c : Thread nD τ) none (κ₁ := K (c, .dma (sm rS))) (κ₂ := K (e c, .dma (sm rR)))
      (c' := (Dev.tc (e c) : Thread nD τ)) (src := src) (dst := dst) (sS := .dma (sm rS)) (sem := .dma (sm rR)) (hsc := hsc) (hsem := hsem)
      (q := q) (fs := fs)
      (r₁ := 0) (r₂ := 0) (d₁ := 0) (d₂ := 0) (fd := fd)
      (by rw [duties_dma]; exact Finset.mem_singleton_self _) (by rw [duties_dma]; exact Finset.mem_singleton_self _)
      () () (amtR rR) (hN.trans hSR) ((amount_eq m c _ 0).trans ((amt_dma rS).trans hSR)) ((amount_eq m (e c) _ 0).trans (amt_dma rR))
      (owed c (l.flatMap keyO)) (by rw [← amt_dma rR]) (W := W)
      (by rw [payload_dma]; exact (owns_intro (c : Thread nD τ) src q fs).trans hp₁)
      (by rw [payload_dma]; exact (owns_written (e c) dst).trans hp₂))
    $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hcr, HO⟩
  iapply Hk
  isplitr [Hcr]
  · isplitr; · iexists K; iexact HR
    isplitr; · iexact Hlev
    isplitl [HO]; · iexists W; iexact HO
    isplitl [HT]; · iexact HT
    isplitl [HP]; · iexact HP
    isplitl [HC]; · iexact HC
    iexact HZ
  · unfold crd; rw [tot_dma, hSR]; iexact Hcr

/-- A local copy: both ends come back at the wait for it. -/
theorem step_copy {α : Type} {Q : α → sProp 𝕄} (r : Role) {qR : DmaSem sig} (hqR : qR = sm r)
    {sp sp' : Space} {sh : Shape} {et : EltTy} {src : Memref sig .tc sp sh et} {dst : Memref sig .tc sp' sh et}
    (hN : RefSig.tileCredit sh et = amtR r) (q : PosShare TreeShare) (X : sh.Idx → Elt F et)
    (hp : iprop(ownsTc c dst fullShare X ∗ ownsTc c src q X) ⊢ payR m c r)
    {hsrc : src.view.WordExact} {hdst : dst.view.WordExact} {hsem : DmaTarget.Typed (nD := nD) (τ := τ) (p := .tc) sp (.dma qR) (.here dst)}
    {k : PUnit → Prog (TpuEff nD τ sig (Elt F) Λ₀ .tc) α} :
    iprop(Core m c dn (.copy r :: l) ∗ ownsTc c src q X ∗ ownsAny c dst)
      ⊢ iprop(((Core m c dn l ∗ crd c (.dma (sm r))) -∗ WP c (k ⟨⟩) Q)
          -∗ WP c (.op (.enqueueDma src (.here dst) (.dma qR) hsrc hdst hsem) k) Q) := by
  subst hqR
  unfold Core
  rw [show (Ev.copy r :: l).flatMap keyT = (Equiv.refl _, .dma (sm r), 0) :: l.flatMap keyT from rfl,
    show (Ev.copy r :: l).flatMap keyP = l.flatMap keyP from rfl,
    show (Ev.copy r :: l).flatMap keyC = l.flatMap keyC from rfl,
    show (Ev.copy r :: l).flatMap keyO = l.flatMap keyO from rfl, bigSepL_cons']
  iintro ⟨⟨⟨%K, #HR⟩, #Hlev, HO, ⟨Ht, HT⟩, HP, HC, HZ⟩, Hs, ⟨%Y, Hd⟩⟩ Hk
  unfold ownsTc owns
  icases Hs with ⟨%fs, %hfs, Hs⟩
  icases Hd with ⟨%fd, -, Hd⟩
  subst hfs
  ihave HI := (records_get m K c (.dma (sm r))) $$ HR
  icases HI with ⟨#HI, #Hr⟩
  unfold tok
  iapply (Rounds.wp_copy_pointsTo 𝒱₀ ER (Rd m) (c : Thread nD τ) none (κ := K (c, .dma (sm r)))
      (src := src) (dst := dst) (sem := .dma (sm r)) (hsem := hsem) (q := q) (fs := fs) (r := 0) (d := 0) (fd := fd)
      (by rw [duties_dma]; exact Finset.mem_singleton_self _)
      () (amtR r) hN ((amount_eq m c _ 0).trans (amt_dma r))
      (by
        rw [payload_dma]
        exact (Laws.sep_mono (owns_written c dst) (owns_intro (c : Thread nD τ) src q fs)).trans hp))
    $$ [Ht Hs Hd]
  · isplitr; · iexact HI
    isplitl [Hs]; · iexact Hs
    isplitl [Hd]; · iexact Hd
    isplitl [Ht]; · iexact Ht
    iexact Hr
  iintro Hcr
  iapply Hk
  isplitr [Hcr]
  · isplitr; · iexists K; iexact HR
    isplitr; · iexact Hlev
    isplitl [HO]; · iexact HO
    isplitl [HT]; · iexact HT
    isplitl [HP]; · iexact HP
    isplitl [HC]; · iexact HC
    iexact HZ
  · unfold crd; rw [tot_dma]; iexact Hcr

/-! ### Waits -/

/-- A wait for a cell's whole round, by its credit; the cell closes. -/
theorem wait_core {α : Type} {Q : α → sProp 𝕄} (s : SemLoc sig) (habove : above (lvS s) l = true) (evs : List Ev)
    (hT : evs.flatMap keyT = l.flatMap keyT) (hP : evs.flatMap keyP = s :: l.flatMap keyP) (hO : evs.flatMap keyO = l.flatMap keyO)
    (hC : iprop(bigSepL (evs.flatMap keyC) (crd (F := F) c)) ⊢ iprop(crd c s ∗ bigSepL (l.flatMap keyC) (crd c)))
    {w : TpuEff nD τ sig (Elt F) Λ₀ .tc PUnit} {k' : ℕ} (hk' : k' = tot s)
    (hw : ∀ K : PUnit → sProp 𝕄, wpE (defs₀ (F := F)) 𝒱₀ (c : Thread nD τ) none Set.univ w K = waitSpec (c : Thread nD τ) Set.univ s k' K)
    {k : PUnit → Prog (TpuEff nD τ sig (Elt F) Λ₀ .tc) α} :
    Core m c dn evs
      ⊢ iprop(((Core m c (s :: dn) l ∗ bigSep ((Rd m).duties (cl c s) 0 \ ∅) (fun d => (Rd m).payload (cl c s) 0 d)) -∗ WP c (k ⟨⟩) Q)
          -∗ WP c (.op w k) Q) := by
  subst hk'
  unfold Core
  rw [hT, hP, hO, bigSepL_cons', bigSepL_cons']
  iintro ⟨⟨%K, #HR⟩, #Hlev, ⟨%W, HO⟩, HT, ⟨Hat, HP⟩, HC, HZ⟩ Hk
  ihave HC := hC $$ HC
  icases HC with ⟨Hcr, HC⟩
  ihave HI := (records_get m K c s) $$ HR
  icases HI with ⟨#HI, #Hr⟩
  unfold pos
  iapply (Rounds.wp_wait_rest_token 𝒱₀ ER (Rd m) (c : Thread nD τ) none (κ := K (c, s))
      hw (Set.mem_univ _) () (O := owed c (l.flatMap keyO)) (W := W) (R := 0) (m := 0) (T := ∅)
      (by rw [Nat.zero_add, expect_eq])) $$ [Hcr HO Hat]
  · isplitr; · iexact HI
    isplitl [Hcr]; · unfold crd; iexact Hcr
    isplitl [HO]; · iexact HO
    isplitr; · iapply (mayWait c s l habove); iexact Hlev
    iexact Hat
  iintro ⟨HO, Hat, -, Hpay⟩
  imod (Rounds.cell_close ER (Rd m) (Set.mem_univ (K (c, s))) (fun h => h) (R := 0 + 1) (duties_later m (cl c s))) $$ [Hat] with Hz
  · isplitr; · iexact HI
    iexact Hat
  iapply Hk
  isplitr [Hpay]
  · isplitr; · iexists K; iexact HR
    isplitr; · iexact Hlev
    isplitl [HO]; · iexists _; iexact HO
    isplitl [HT]; · iexact HT
    isplitl [HP]; · iexact HP
    isplitl [HC]; · iexact HC
    isplitl [Hz]; · unfold zro; iexact Hz
    iexact HZ
  · iexact Hpay

/-- The wait on a regular semaphore: three signals' payloads. -/
theorem step_waitS {α : Type} {Q : α → sProp 𝕄} (s : Sem sig) (habove : above (lvS (.reg s)) l = true) {q : Sem sig} (hq : q = s) {z : ℤ} (hz : z = ((3 : ℕ) : ℤ))
    {k : PUnit → Prog (TpuEff nD τ sig (Elt F) Λ₀ .tc) α} :
    Core m c dn (.waitL (.reg s) :: l)
      ⊢ iprop(((Core m c (.reg s :: dn) l ∗ payS c s 0 ∗ payS c s 1 ∗ payS c s 2) -∗ WP c (k ⟨⟩) Q)
          -∗ WP c (.op (.semWait q z) k) Q) := by
  subst hq hz
  have h := wait_core m c dn l (Q := Q) (k := k) (.reg q) habove (.waitL (.reg q) :: l) rfl rfl rfl
    (by rw [show (Ev.waitL (.reg q) :: l).flatMap keyC = .reg q :: l.flatMap keyC from rfl, bigSepL_cons'])
    (show (3 : ℕ) = tot (.reg q) from rfl) (wpE_semWait_eq 𝒱₀ (c : Thread nD τ) none Set.univ)
  rw [rest_reg] at h
  exact h

/-- The wait for a transfer a peer makes. -/
theorem step_waitL {α : Type} {Q : α → sProp 𝕄} (r : Role) (habove : above (lvS (.dma (sm r))) l = true) {q : DmaSem sig} (hq : q = sm r)
    {sp sp' : Space} {sh sh' : Shape} {et et' : EltTy} {src : Memref sig .tc sp' sh' et'} {dst : Memref sig .tc sp sh et}
    (hN : RefSig.tileCredit sh et = amtR r)
    {hsrc : src.view.WordExact} {hdst : dst.view.WordExact}
    {k : PUnit → Prog (TpuEff nD τ sig (Elt F) Λ₀ .tc) α} :
    Core m c dn (.waitL (.dma (sm r)) :: l)
      ⊢ iprop(((Core m c (.dma (sm r) :: dn) l ∗ payR m c r) -∗ WP c (k ⟨⟩) Q)
          -∗ WP c (.op (.waitDma2 q src dst hsrc hdst) k) Q) := by
  subst hq
  have h := wait_core m c dn l (Q := Q) (k := k) (.dma (sm r)) habove (.waitL (.dma (sm r)) :: l) rfl rfl rfl
    (by rw [show (Ev.waitL (.dma (sm r)) :: l).flatMap keyC = .dma (sm r) :: l.flatMap keyC from rfl, bigSepL_cons'])
    (show dst.view.dmaCredit = tot (.dma (sm r)) from hN.trans (tot_dma r).symm)
    (wpE_waitDma2_eq (src := src) (dst := dst) (hsrc := hsrc) (hdst := hdst) 𝒱₀ (c : Thread nD τ) none Set.univ)
  rw [rest_dma] at h
  exact h

/-- The wait for a transfer of the device's own. -/
theorem step_wait {α : Type} {Q : α → sProp 𝕄} (r : Role) (habove : above (lvS (.dma (sm r))) l = true) {q : DmaSem sig} (hq : q = sm r)
    {sp sp' : Space} {sh sh' : Shape} {et et' : EltTy} {src : Memref sig .tc sp' sh' et'} {dst : Memref sig .tc sp sh et}
    (hN : RefSig.tileCredit sh et = amtR r)
    {hsrc : src.view.WordExact} {hdst : dst.view.WordExact}
    {k : PUnit → Prog (TpuEff nD τ sig (Elt F) Λ₀ .tc) α} :
    iprop(Core m c dn (.wait r :: l) ∗ crd c (.dma (sm r)))
      ⊢ iprop(((Core m c (.dma (sm r) :: dn) l ∗ payR m c r) -∗ WP c (k ⟨⟩) Q)
          -∗ WP c (.op (.waitDma2 q src dst hsrc hdst) k) Q) := by
  subst hq
  have h := wait_core m c dn l (Q := Q) (k := k) (.dma (sm r)) habove (.waitL (.dma (sm r)) :: l) rfl rfl rfl
    (by rw [show (Ev.waitL (.dma (sm r)) :: l).flatMap keyC = .dma (sm r) :: l.flatMap keyC from rfl, bigSepL_cons'])
    (show dst.view.dmaCredit = tot (.dma (sm r)) from hN.trans (tot_dma r).symm)
    (wpE_waitDma2_eq (src := src) (dst := dst) (hsrc := hsrc) (hdst := hdst) 𝒱₀ (c : Thread nD τ) none Set.univ)
  rw [rest_dma] at h
  refine BIBase.Entails.trans ?_ h
  unfold Core
  rw [show (Ev.waitL (.dma (sm r)) :: l).flatMap keyC = .dma (sm r) :: l.flatMap keyC from rfl,
    show (Ev.wait r :: l).flatMap keyC = l.flatMap keyC from rfl, bigSepL_cons']
  rw [show (Ev.waitL (.dma (sm r)) :: l).flatMap keyT = (Ev.wait r :: l).flatMap keyT from rfl,
    show (Ev.waitL (.dma (sm r)) :: l).flatMap keyP = (Ev.wait r :: l).flatMap keyP from rfl,
    show (Ev.waitL (.dma (sm r)) :: l).flatMap keyO = (Ev.wait r :: l).flatMap keyO from rfl]
  iintro ⟨⟨HR, Hlev, HO, HT, HP, HC, HZ⟩, Hcr⟩
  isplitl [HR]; · iexact HR
  isplitl [Hlev]; · iexact Hlev
  isplitl [HO]; · iexact HO
  isplitl [HT]; · iexact HT
  isplitl [HP]; · iexact HP
  isplitl [Hcr HC]
  · isplitl [Hcr]; · iexact Hcr
    iexact HC
  iexact HZ

end Steps

end Cert.KProof
-- ==== Proof.Mem.lean ====
/-
# Loads and stores through parts of a buffer

What a device holds of a buffer is a slice of it, often with its leading unit axes dropped; the body loads and
stores through the whole buffer at a rectangle.  The rules here match the two, and the lemmas at the end take whole
buffers apart into the slices and put them together again.
-/
module

public import proofs.«01_k».proof.Proof.Steps
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Access

variable (c : Dev nD)

/-- A load at a rectangle inside the one whose slice is held. -/
theorem load_in {α : Type} {Q : α → sProp 𝕄} {cs : CoreSpace} {sh : Shape} {e : EltTy} (M : Memref sig .tc cs sh e) (R r : Rect sh)
    (hR : ∀ a, R.stride a = 1) (q : PosShare TreeShare) (X : R.shape.Idx → Elt F e) (Y : r.shape.Idx → Elt F e)
    (hY : ∀ j, ∃ i, r.emb j = R.emb i ∧ X i = Y j) {hl : M.view.LoadsAt r.toLoadRect}
    {k : (r.toLoadRect.shape.Idx → Elt F e) → Prog (TpuEff nD τ sig (Elt F) Λ₀ .tc) α} :
    (ownsTc c (M.slice R hR) q X : sProp 𝕄)
      ⊢ iprop((ownsTc c (M.slice R hR) q X -∗ WP c (k Y) Q) -∗ WP c (.op (.load M r.toLoadRect hl) k) Q) := by
  unfold ownsTc owns
  iintro ⟨%f, %hf, H⟩ Hk
  have hS : M.view.setOn r.toLoadRect.set ⊆ (M.slice R hR).view.set := by
    intro i hi
    rw [View.set_slice]
    obtain ⟨x, hx, rfl⟩ := Finset.mem_map.mp hi
    obtain ⟨j, rfl⟩ := r.exists_idx_of_mem hx
    obtain ⟨i', h, -⟩ := hY j
    exact Finset.mem_map_of_mem _ (show r.emb j ∈ R.set from h ▸ R.idx_mem i')
  have hv : M.view.readAt (Elt F) r.toLoadRect f = Y := by
    funext j
    obtain ⟨i, h, hx⟩ := hY j
    rw [← hx, ← hf]
    show M.view.read (Elt F) f (r.emb j) = M.view.read (Elt F) f (R.emb i)
    rw [h]
  iapply (wp_load 𝒱₀ (c : Thread nD τ) none Set.univ (m := M) hS) $$ H
  iintro H
  rw [hv]
  iapply Hk
  iexists f
  isplitr; · ipureintro; exact hf
  iexact H

/-- A load of exactly the slice held. -/
theorem load_eq {α : Type} {Q : α → sProp 𝕄} {cs : CoreSpace} {sh : Shape} {e : EltTy} (M : Memref sig .tc cs sh e) (R : Rect sh)
    (hR : ∀ a, R.stride a = 1) (q : PosShare TreeShare) (X : R.shape.Idx → Elt F e) {hl : M.view.LoadsAt R.toLoadRect}
    {k : (R.toLoadRect.shape.Idx → Elt F e) → Prog (TpuEff nD τ sig (Elt F) Λ₀ .tc) α} :
    (ownsTc c (M.slice R hR) q X : sProp 𝕄)
      ⊢ iprop((ownsTc c (M.slice R hR) q X -∗ WP c (k X) Q) -∗ WP c (.op (.load M R.toLoadRect hl) k) Q) :=
  load_in c M R R hR q X X fun j => ⟨j, rfl, rfl⟩

/-- A load whose result is dropped. -/
theorem load_any {α : Type} {Q : α → sProp 𝕄} {cs : CoreSpace} {sh : Shape} {e : EltTy} (M : Memref sig .tc cs sh e) (R : Rect sh)
    (hR : ∀ a, R.stride a = 1) {hl : M.view.LoadsAt R.toLoadRect}
    {p : Prog (TpuEff nD τ sig (Elt F) Λ₀ .tc) α} :
    (ownsAny c (M.slice R hR) : sProp 𝕄)
      ⊢ iprop((ownsAny c (M.slice R hR) -∗ WP c p Q) -∗ WP c (.op (.load M R.toLoadRect hl) fun _ => p) Q) := by
  iintro ⟨%X, H⟩ Hk
  iapply (load_eq c M R hR fullShare X) $$ H
  iintro H
  iapply Hk
  iexists X; iexact H

/-- A store over exactly the slice held. -/
theorem store_eq {α : Type} {Q : α → sProp 𝕄} {cs : CoreSpace} {sh : Shape} {e : EltTy} (M : Memref sig .tc cs sh e) (R : Rect sh)
    (hR : ∀ a, R.stride a = 1) (w : R.shape.Idx → Elt F e) {hx : (M.access R).Stores Finset.univ} {hm : Finset.univ = Finset.univ ∨ ∀ a, R.stride a = 1}
    {k : PUnit → Prog (TpuEff nD τ sig (Elt F) Λ₀ .tc) α} :
    (ownsAny c (M.slice R hR) : sProp 𝕄)
      ⊢ iprop((ownsTc c (M.slice R hR) fullShare w -∗ WP c (k ⟨⟩) Q) -∗ WP c (.op (.store M R w Finset.univ hx hm) k) Q) := by
  unfold ownsAny ownsTc owns
  iintro ⟨%X, %f, %hf, H⟩ Hk
  iapply (wp_store 𝒱₀ (c : Thread nD τ) none Set.univ (m := M) (r := R) (w := w) (Mk := Finset.univ) (by rw [View.setOn_univ])) $$ H
  iintro H
  iapply Hk
  iexists (M.access R).write (Elt F) f w Finset.univ
  isplitr; · ipureintro; exact View.read_write_univ ..
  iexact H

/-! ### Slices with their unit axes dropped -/

/-- A slot with its unit axes and without them is the same memory. -/
theorem squeeze_iff {sp : Space} {sh s' : Shape} {e : EltTy} (M : Memref sig .tc sp sh e) (hq : sh.Squeezes s') (hc : sh.ShapeCasts s')
    (q : PosShare TreeShare) (X : sh.Idx → Elt F e) :
    (ownsTc c M q X : sProp 𝕄) ⊢ ownsTc c (M.squeeze s' hq) q (shapeCast s' X hc) := by
  unfold ownsTc owns
  iintro ⟨%f, %hf, H⟩
  iexists f
  isplitr; · ipureintro; rw [← hf]; rfl
  rw [show (M.squeeze s' hq).view.set = M.view.set from View.set_reshape _ _]
  iexact H

/-- The unit axes put back. -/
theorem unsqueeze {sp : Space} {sh s' : Shape} {e : EltTy} (M : Memref sig .tc sp sh e) (hq : sh.Squeezes s') (hc : s'.ShapeCasts sh)
    (q : PosShare TreeShare) (X : s'.Idx → Elt F e) :
    (ownsTc c (M.squeeze s' hq) q X : sProp 𝕄) ⊢ ownsTc c M q (shapeCast sh X hc) := by
  unfold ownsTc owns
  iintro ⟨%f, %hf, H⟩
  iexists f
  isplitr
  · ipureintro; rw [← hf]
    exact (shapeCast_shapeCast (M.view.read (Elt F) f) (hc.symm : sh.ShapeCasts s') hc).symm
  rw [show (M.squeeze s' hq).view.set = M.view.set from View.set_reshape _ _]
  iexact H

/-- The same at some contents. -/
theorem any_squeeze {sp : Space} {sh s' : Shape} {e : EltTy} (M : Memref sig .tc sp sh e) (hq : sh.Squeezes s') (hc : sh.ShapeCasts s') :
    (ownsAny c M : sProp 𝕄) ⊢ ownsAny c (M.squeeze s' hq) := by
  iintro ⟨%X, H⟩
  iexists shapeCast s' X hc
  iapply (squeeze_iff c M hq hc fullShare X) $$ H
theorem any_unsqueeze {sp : Space} {sh s' : Shape} {e : EltTy} (M : Memref sig .tc sp sh e) (hq : sh.Squeezes s') (hc : s'.ShapeCasts sh) :
    (ownsAny c (M.squeeze s' hq) : sProp 𝕄) ⊢ ownsAny c M := by
  iintro ⟨%X, H⟩
  iexists shapeCast sh X hc
  iapply (unsqueeze c M hq hc fullShare X) $$ H

/-- A load of a slot held with its unit axes dropped. -/
theorem load_slot {α : Type} {Q : α → sProp 𝕄} {cs : CoreSpace} {sh s' : Shape} {e : EltTy} (M : Memref sig .tc cs sh e) (R : Rect sh)
    (hR : ∀ a, R.stride a = 1) (hq : R.shape.Squeezes s') (hc : s'.ShapeCasts R.shape) (q : PosShare TreeShare) (X : s'.Idx → Elt F e)
    {hl : M.view.LoadsAt R.toLoadRect} {k : (R.toLoadRect.shape.Idx → Elt F e) → Prog (TpuEff nD τ sig (Elt F) Λ₀ .tc) α} :
    (ownsTc c ((M.slice R hR).squeeze s' hq) q X : sProp 𝕄)
      ⊢ iprop((ownsTc c ((M.slice R hR).squeeze s' hq) q X -∗ WP c (k (shapeCast R.shape X hc)) Q)
          -∗ WP c (.op (.load M R.toLoadRect hl) k) Q) := by
  iintro H Hk
  ihave H := (unsqueeze c (M.slice R hR) hq hc q X) $$ H
  iapply (load_eq c M R hR q (shapeCast R.shape X hc)) $$ H
  iintro H
  iapply Hk
  ihave H := (squeeze_iff c (M.slice R hR) hq (hc.symm : R.shape.ShapeCasts s') q _) $$ H
  rw [shapeCast_shapeCast]
  iexact H

/-- A load of such a slot whose result is dropped. -/
theorem load_slot_any {α : Type} {Q : α → sProp 𝕄} {cs : CoreSpace} {sh s' : Shape} {e : EltTy} (M : Memref sig .tc cs sh e) (R : Rect sh)
    (hR : ∀ a, R.stride a = 1) (hq : R.shape.Squeezes s') (hc : s'.ShapeCasts R.shape)
    {hl : M.view.LoadsAt R.toLoadRect} {p : Prog (TpuEff nD τ sig (Elt F) Λ₀ .tc) α} :
    (ownsAny c ((M.slice R hR).squeeze s' hq) : sProp 𝕄)
      ⊢ iprop((ownsAny c ((M.slice R hR).squeeze s' hq) -∗ WP c p Q) -∗ WP c (.op (.load M R.toLoadRect hl) fun _ => p) Q) := by
  iintro ⟨%X, H⟩ Hk
  iapply (load_slot c M R hR hq hc fullShare X) $$ H
  iintro H
  iapply Hk
  iexists X; iexact H

/-- A store over a slot held with its unit axes dropped. -/
theorem store_slot {α : Type} {Q : α → sProp 𝕄} {cs : CoreSpace} {sh s' : Shape} {e : EltTy} (M : Memref sig .tc cs sh e) (R : Rect sh)
    (hR : ∀ a, R.stride a = 1) (hq : R.shape.Squeezes s') (hc : s'.ShapeCasts R.shape) (X : s'.Idx → Elt F e)
    {w : R.shape.Idx → Elt F e} (hw : w = shapeCast R.shape X hc)
    {hx : (M.access R).Stores Finset.univ} {hm : Finset.univ = Finset.univ ∨ ∀ a, R.stride a = 1}
    {k : PUnit → Prog (TpuEff nD τ sig (Elt F) Λ₀ .tc) α} :
    (ownsAny c ((M.slice R hR).squeeze s' hq) : sProp 𝕄)
      ⊢ iprop((ownsTc c ((M.slice R hR).squeeze s' hq) fullShare X -∗ WP c (k ⟨⟩) Q)
          -∗ WP c (.op (.store M R w Finset.univ hx hm) k) Q) := by
  subst hw
  iintro H Hk
  ihave H := (any_unsqueeze c (M.slice R hR) hq hc) $$ H
  iapply (store_eq c M R hR (shapeCast R.shape X hc)) $$ H
  iintro H
  iapply Hk
  ihave H := (squeeze_iff c (M.slice R hR) hq (hc.symm : R.shape.ShapeCasts s') fullShare _) $$ H
  rw [shapeCast_shapeCast]
  iexact H

/-- A load of a whole buffer. -/
theorem load_whole {α : Type} {Q : α → sProp 𝕄} (X : S512x512.Idx → Elt F .f32)
    {inb : ∀ a, (![0, 0] : Fin 2 → ℕ) a + S512x512.size a ≤ S512x512.size a}
    {hl : xvM.view.LoadsAt (Rect.unit (s := S512x512) ![0, 0] S512x512.size inb).toLoadRect}
    {k : (S512x512.Idx → Elt F .f32) → Prog (TpuEff nD τ sig (Elt F) Λ₀ .tc) α} :
    (ownsTc c xvM fullShare X : sProp 𝕄)
      ⊢ iprop((ownsTc c xvM fullShare X -∗ WP c (k X) Q)
          -∗ WP c (.op (.load xvM (Rect.unit (s := S512x512) ![0, 0] S512x512.size inb).toLoadRect hl) k) Q) := by
  unfold ownsTc owns
  iintro ⟨%f, %hf, H⟩ Hk
  iapply (wp_load 𝒱₀ (c : Thread nD τ) none Set.univ (m := xvM) (View.setOn_subset_set _ _)) $$ H
  iintro H
  rw [show xvM.view.readAt (Elt F) (Rect.unit (s := S512x512) ![0, 0] S512x512.size inb).toLoadRect f = X from
    (Memref.readAt_unit_zero (Elt F) cc0_scratch1 (by decide) inb f).trans hf]
  iapply Hk
  iexists f
  isplitr; · ipureintro; exact hf
  iexact H

end Access

/-! ## Buffers in parts -/

section Parts
variable (c : Dev nD)

/-- Known contents forgotten. -/
theorem any_intro {sp : Space} {sh : Shape} {e : EltTy} (M : Memref sig .tc sp sh e) (X : sh.Idx → Elt F e) :
    (ownsTc c M fullShare X : sProp 𝕄) ⊢ ownsAny c M := by
  iintro H; iexists X; iexact H

/-- A buffer cut into rectangles that tile it, at some contents. -/
theorem any_rects {sp : Space} {sh : Shape} {e : EltTy} (M : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (ownsAny c M : sProp 𝕄) ⊢ bigSep Finset.univ fun t => ownsAny c (M.slice (r t) (hr t)) := by
  iintro ⟨%X, H⟩
  iapply (show (ownsTc c M fullShare X : sProp 𝕄) ⊢ bigSep Finset.univ fun t => ownsAny c (M.slice (r t) (hr t)) from
    (owns_rects (c : Thread nD τ) M fullShare r hr hd hcov X).trans (bigSep_mono fun t _ => any_intro c (M.slice (r t) (hr t)) _))
  iexact H

/-- The rectangles put together again. -/
theorem any_of_rects {sp : Space} {sh : Shape} {e : EltTy} (M : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => ownsAny c (M.slice (r t) (hr t))) ⊢ (ownsAny c M : sProp 𝕄) := by
  refine (bigSep_exists_pi Finset.univ (fun t X => ownsTc c (M.slice (r t) (hr t)) fullShare X)).trans ?_
  iintro ⟨%Xs, H⟩
  iexists Rect.glue r hcov Xs
  iapply (owns_of_rects (c : Thread nD τ) M fullShare r hr hd hcov (Rect.glue r hcov Xs))
  have h : (fun t => ownsTc c (M.slice (r t) (hr t)) fullShare (Xs t) : T → sProp 𝕄)
      = fun t => owns (c : Thread nD τ) (M.slice (r t) (hr t)) fullShare (fun j => Rect.glue r hcov Xs ((r t).emb j)) :=
    funext fun t => by
      rw [show (fun j => Rect.glue r hcov Xs ((r t).emb j)) = Xs t from funext fun y => Rect.glue_emb r hcov hd Xs t y]
  rw [← h]
  iexact H

end Parts

end Cert.KProof
-- ==== Proof.Rules.lean ====
/-
# The body's actions, each with what it does to the device's state

The rules of the script's events at the buffers this body moves, numbered by the event's place in the script.
-/
module

public import proofs.«01_k».proof.Proof.Mem

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells closed before event `n` of the script, and the device's ghost state before it. -/
abbrev dnAt (n : ℕ) : List (SemLoc sig) := ((scr0.take n).flatMap keyP).reverse
abbrev St (c : Dev nD) (n : ℕ) : sProp 𝕄 := Core m c (dnAt n) (scr0.drop n)

section Rules

variable (c : Dev nD) (n : ℕ)

/-! ### What the payloads say, role by role -/

theorem pay_own (s : Fin 2) : payR m c (.own s)
    = iprop(ownsTc c (oW c s) fullShare (piece m c s) ∗ ownsTc c (pcl s) fullShare.right.right (piece m c s)) := rfl
theorem pay_bs (s : Fin 2) (o : Fin 3) : payR m c (.bs s o) = ownsTc c (bsl s o) fullShare (snd m c s o) := rfl
theorem pay_br (s : Fin 2) (o : Fin 3) : payR m c (.br s o) = ownsTc c (brl s o) fullShare (rcv m c s o) := rfl
theorem pay_cs (s : Fin 2) (k : Fin 3) : payR m c (.cs s k) = ownsTc c (pcl s) (shr k) (piece m c s) := rfl
theorem pay_cr (s : Fin 2) (k : Fin 3) : payR m c (.cr s k) = ownsTc c (oW (xyp k c) s) fullShare (piece m (xyp k c) s) := rfl
theorem pay_cp0 : payR m c (.cp 0) = iprop(ownsTc c xvM fullShare (xa m c) ∗ ownsTc c xM fullShare (xa m c)) := rfl
theorem pay_cp1 : payR m c (.cp 1) = iprop(ownsTc c (yvH 0) fullShare (yc m c 0) ∗ ownsTc c (yW c 0) fullShare.left (yc m c 0)) := rfl
theorem pay_cp2 : payR m c (.cp 2) = iprop(ownsTc c (yvH 1) fullShare (yc m c 1) ∗ ownsTc c (yW c 1) fullShare.right (yc m c 1)) := rfl
omit [FloatOps F] in
theorem pay_bar (d : Fin 3) : (payS c barS d : sProp 𝕄)
    = iprop(ownsAny (zp (2 - d) c) (brl 0 (2 - d)) ∗ ownsAny (zp (2 - d) c) (brl 1 (2 - d))) := if_pos rfl
omit [FloatOps F] in
theorem pay_xy (d : Fin 3) : (payS c xyS d : sProp 𝕄)
    = iprop(ownsAny (xyp d c) (oW c 0) ∗ ownsAny (xyp d c) (oW c 1)) := if_neg (by decide)

/-! ### Signals -/

/-- The signal along `z`: it lends the slots that this peer will write. -/
theorem sig_b (d : Fin 3) (hev : scr0.drop n = Ev.sig (zp d) barS d :: scr0.drop (n + 1)) (hdn : dnAt (n + 1) = dnAt n)
    {α : Type} {Q : α → sProp 𝕄} {nd : Dev nD} (hn : nd = zp d c) {q : Sem sig} (hq : q = barS)
    {z : ℤ} (hz : z = ((1 : ℕ) : ℤ)) {k : PUnit → Prog (TpuEff nD τ sig (Elt F) Λ₀ .tc) α} :
    iprop(St m c n ∗ ownsAny c (brl 0 (2 - d)) ∗ ownsAny c (brl 1 (2 - d)))
      ⊢ iprop((St m c (n + 1) -∗ WP c (k ⟨⟩) Q) -∗ WP c (.op (.semSignal (nd : Thread nD τ) q z) k) Q) := by
  unfold St
  rw [hdn, hev]
  have h := step_signal m c (dnAt n) (scr0.drop (n + 1)) (Q := Q) (k := k) (zp d) barS d hn hq hz
  rw [pay_bar, zp_zp] at h
  exact h

/-- The signal over the plane: it lends the windows of the result that this peer will write. -/
theorem sig_x (d : Fin 3) (hev : scr0.drop n = Ev.sig (xyp d) xyS d :: scr0.drop (n + 1)) (hdn : dnAt (n + 1) = dnAt n)
    {α : Type} {Q : α → sProp 𝕄} {nd : Dev nD} (hn : nd = xyp d c) {q : Sem sig} (hq : q = xyS)
    {z : ℤ} (hz : z = ((1 : ℕ) : ℤ)) {k : PUnit → Prog (TpuEff nD τ sig (Elt F) Λ₀ .tc) α} :
    iprop(St m c n ∗ ownsAny c (oW (xyp d c) 0) ∗ ownsAny c (oW (xyp d c) 1))
      ⊢ iprop((St m c (n + 1) -∗ WP c (k ⟨⟩) Q) -∗ WP c (.op (.semSignal (nd : Thread nD τ) q z) k) Q) := by
  unfold St
  rw [hdn, hev]
  have h := step_signal m c (dnAt n) (scr0.drop (n + 1)) (Q := Q) (k := k) (xyp d) xyS d hn hq hz
  rw [pay_xy, xyp_xyp] at h
  exact h

/-! ### Transfers to a peer -/

/-- The transfer of one peer's block along `z`. -/
theorem send_b (s : Fin 2) (o : Fin 3) (hev : scr0.drop n = Ev.send (zp o) (.bs s o) (.br s o) :: scr0.drop (n + 1)) (hdn : dnAt (n + 1) = dnAt n)
    {α : Type} {Q : α → sProp 𝕄} {nd : Dev nD} (hn : nd = zp o c) {qS qR : DmaSem sig} (hqS : qS = sm (.bs s o)) (hqR : qR = sm (.br s o))
    {hsc : (Memref.view (κ := (Dev.tc nd : Thread nD τ).2.kind) (brl s o)).ref.isScScratch = false}
    {hsrc : (bsl s o).view.WordExact} {hdst : (brl s o).view.WordExact}
    {hsem : DmaTarget.Typed .vmem (.dma qR) (.remote (Dev.tc nd : Thread nD τ) (brl s o) (.dma qS) hsc)}
    {k : PUnit → Prog (TpuEff nD τ sig (Elt F) Λ₀ .tc) α} :
    iprop(St m c n ∗ ownsTc c (bsl s o) fullShare (snd m c s o) ∗ ownsAny (zp o c) (brl s o))
      ⊢ iprop(((St m c (n + 1) ∗ crd c (.dma (sm (.bs s o)))) -∗ WP c (k ⟨⟩) Q)
          -∗ WP c (.op (.enqueueDma (bsl s o) (.remote (Dev.tc nd : Thread nD τ) (brl s o) (.dma qS) hsc) (.dma qR) hsrc hdst hsem) k) Q) := by
  unfold St
  rw [hdn, hev]
  exact step_send m c (dnAt n) (scr0.drop (n + 1)) (zp o) (.bs s o) (.br s o) hn hqS hqR rfl rfl fullShare (snd m c s o)
    (by rw [pay_bs]) (by rw [pay_br]; unfold rcv; rw [zp_zp])

/-- The transfer of a piece to one peer of the plane. -/
theorem send_c (s : Fin 2) (o : Fin 3) (hev : scr0.drop n = Ev.send (xyp o) (.cs s o) (.cr s o) :: scr0.drop (n + 1)) (hdn : dnAt (n + 1) = dnAt n)
    {α : Type} {Q : α → sProp 𝕄} {nd : Dev nD} (hn : nd = xyp o c) {qS qR : DmaSem sig} (hqS : qS = sm (.cs s o)) (hqR : qR = sm (.cr s o))
    {hsc : (Memref.view (κ := (Dev.tc nd : Thread nD τ).2.kind) (oW c s)).ref.isScScratch = false}
    {hsrc : (pcl s).view.WordExact} {hdst : (oW c s).view.WordExact}
    {hsem : DmaTarget.Typed .vmem (.dma qR) (.remote (Dev.tc nd : Thread nD τ) (oW c s) (.dma qS) hsc)}
    {k : PUnit → Prog (TpuEff nD τ sig (Elt F) Λ₀ .tc) α} :
    iprop(St m c n ∗ ownsTc c (pcl s) (shr o) (piece m c s) ∗ ownsAny (xyp o c) (oW c s))
      ⊢ iprop(((St m c (n + 1) ∗ crd c (.dma (sm (.cs s o)))) -∗ WP c (k ⟨⟩) Q)
          -∗ WP c (.op (.enqueueDma (pcl s) (.remote (Dev.tc nd : Thread nD τ) (oW c s) (.dma qS) hsc) (.dma qR) hsrc hdst hsem) k) Q) := by
  unfold St
  rw [hdn, hev]
  exact step_send m c (dnAt n) (scr0.drop (n + 1)) (xyp o) (.cs s o) (.cr s o) hn hqS hqR rfl rfl (shr o) (piece m c s)
    (by rw [pay_cs]) (by rw [pay_cr, xyp_xyp])

/-! ### Copies -/

/-- The copy of `x` into scratch. -/
theorem copy_x (hev : scr0.drop n = Ev.copy (.cp 0) :: scr0.drop (n + 1)) (hdn : dnAt (n + 1) = dnAt n)
    {α : Type} {Q : α → sProp 𝕄} {qR : DmaSem sig} (hqR : qR = sm (.cp 0))
    {hsrc : xM.view.WordExact} {hdst : xvM.view.WordExact} {hsem : DmaTarget.Typed (nD := nD) (τ := τ) (p := .tc) .hbm (.dma qR) (.here xvM)}
    {k : PUnit → Prog (TpuEff nD τ sig (Elt F) Λ₀ .tc) α} :
    iprop(St m c n ∗ ownsTc c xM fullShare (xa m c) ∗ ownsAny c xvM)
      ⊢ iprop(((St m c (n + 1) ∗ crd c (.dma (sm (.cp 0)))) -∗ WP c (k ⟨⟩) Q)
          -∗ WP c (.op (.enqueueDma xM (.here xvM) (.dma qR) hsrc hdst hsem) k) Q) := by
  unfold St
  rw [hdn, hev]
  exact step_copy m c (dnAt n) (scr0.drop (n + 1)) (.cp 0) hqR rfl fullShare (xa m c) (by rw [pay_cp0])

/-- The copy of the first half of the device's columns of `dy`. -/
theorem copy_y0 (hev : scr0.drop n = Ev.copy (.cp 1) :: scr0.drop (n + 1)) (hdn : dnAt (n + 1) = dnAt n)
    {α : Type} {Q : α → sProp 𝕄} {qR : DmaSem sig} (hqR : qR = sm (.cp 1))
    {hsrc : (yW c 0).view.WordExact} {hdst : (yvH 0).view.WordExact} {hsem : DmaTarget.Typed (nD := nD) (τ := τ) (p := .tc) .hbm (.dma qR) (.here (yvH 0))}
    {k : PUnit → Prog (TpuEff nD τ sig (Elt F) Λ₀ .tc) α} :
    iprop(St m c n ∗ ownsTc c (yW c 0) fullShare.left (yc m c 0) ∗ ownsAny c (yvH 0))
      ⊢ iprop(((St m c (n + 1) ∗ crd c (.dma (sm (.cp 1)))) -∗ WP c (k ⟨⟩) Q)
          -∗ WP c (.op (.enqueueDma (yW c 0) (.here (yvH 0)) (.dma qR) hsrc hdst hsem) k) Q) := by
  unfold St
  rw [hdn, hev]
  exact step_copy m c (dnAt n) (scr0.drop (n + 1)) (.cp 1) hqR rfl fullShare.left (yc m c 0) (by rw [pay_cp1])

/-- The copy of the second half of the device's columns of `dy`. -/
theorem copy_y1 (hev : scr0.drop n = Ev.copy (.cp 2) :: scr0.drop (n + 1)) (hdn : dnAt (n + 1) = dnAt n)
    {α : Type} {Q : α → sProp 𝕄} {qR : DmaSem sig} (hqR : qR = sm (.cp 2))
    {hsrc : (yW c 1).view.WordExact} {hdst : (yvH 1).view.WordExact} {hsem : DmaTarget.Typed (nD := nD) (τ := τ) (p := .tc) .hbm (.dma qR) (.here (yvH 1))}
    {k : PUnit → Prog (TpuEff nD τ sig (Elt F) Λ₀ .tc) α} :
    iprop(St m c n ∗ ownsTc c (yW c 1) fullShare.right (yc m c 1) ∗ ownsAny c (yvH 1))
      ⊢ iprop(((St m c (n + 1) ∗ crd c (.dma (sm (.cp 2)))) -∗ WP c (k ⟨⟩) Q)
          -∗ WP c (.op (.enqueueDma (yW c 1) (.here (yvH 1)) (.dma qR) hsrc hdst hsem) k) Q) := by
  unfold St
  rw [hdn, hev]
  exact step_copy m c (dnAt n) (scr0.drop (n + 1)) (.cp 2) hqR rfl fullShare.right (yc m c 1) (by rw [pay_cp2])

/-- The copy of a piece into the device's own window of the result. -/
theorem copy_own (s : Fin 2) (hev : scr0.drop n = Ev.copy (.own s) :: scr0.drop (n + 1)) (hdn : dnAt (n + 1) = dnAt n)
    {α : Type} {Q : α → sProp 𝕄} {qR : DmaSem sig} (hqR : qR = sm (.own s))
    {hsrc : (pcl s).view.WordExact} {hdst : (oW c s).view.WordExact} {hsem : DmaTarget.Typed (nD := nD) (τ := τ) (p := .tc) .vmem (.dma qR) (.here (oW c s))}
    {k : PUnit → Prog (TpuEff nD τ sig (Elt F) Λ₀ .tc) α} :
    iprop(St m c n ∗ ownsTc c (pcl s) fullShare.right.right (piece m c s) ∗ ownsAny c (oW c s))
      ⊢ iprop(((St m c (n + 1) ∗ crd c (.dma (sm (.own s)))) -∗ WP c (k ⟨⟩) Q)
          -∗ WP c (.op (.enqueueDma (pcl s) (.here (oW c s)) (.dma qR) hsrc hdst hsem) k) Q) := by
  unfold St
  rw [hdn, hev]
  exact step_copy m c (dnAt n) (scr0.drop (n + 1)) (.own s) hqR rfl fullShare.right.right (piece m c s) (by rw [pay_own])

/-! ### Waits -/

/-- The wait for the barrier along `z`: the slots of the three peers. -/
theorem wait_bar (hev : scr0.drop n = Ev.waitL (.reg barS) :: scr0.drop (n + 1)) (hdn : dnAt (n + 1) = .reg barS :: dnAt n)
    (hab : above (lvS (.reg barS)) (scr0.drop (n + 1)) = true)
    {α : Type} {Q : α → sProp 𝕄} {q : Sem sig} (hq : q = barS) {z : ℤ} (hz : z = ((3 : ℕ) : ℤ))
    {k : PUnit → Prog (TpuEff nD τ sig (Elt F) Λ₀ .tc) α} :
    St m c n
      ⊢ iprop(((St m c (n + 1)
            ∗ (ownsAny (zp 2 c) (brl 0 2) ∗ ownsAny (zp 2 c) (brl 1 2))
            ∗ (ownsAny (zp 1 c) (brl 0 1) ∗ ownsAny (zp 1 c) (brl 1 1))
            ∗ (ownsAny (zp 0 c) (brl 0 0) ∗ ownsAny (zp 0 c) (brl 1 0))) -∗ WP c (k ⟨⟩) Q)
          -∗ WP c (.op (.semWait q z) k) Q) := by
  unfold St
  rw [hdn, hev]
  have h := step_waitS m c (dnAt n) (scr0.drop (n + 1)) (Q := Q) (k := k) barS hab hq hz
  rw [pay_bar, pay_bar, pay_bar] at h
  exact h

/-- The wait for the barrier over the plane: the windows of the three peers. -/
theorem wait_xy (hev : scr0.drop n = Ev.waitL (.reg xyS) :: scr0.drop (n + 1)) (hdn : dnAt (n + 1) = .reg xyS :: dnAt n)
    (hab : above (lvS (.reg xyS)) (scr0.drop (n + 1)) = true)
    {α : Type} {Q : α → sProp 𝕄} {q : Sem sig} (hq : q = xyS) {z : ℤ} (hz : z = ((3 : ℕ) : ℤ))
    {k : PUnit → Prog (TpuEff nD τ sig (Elt F) Λ₀ .tc) α} :
    St m c n
      ⊢ iprop(((St m c (n + 1)
            ∗ (ownsAny (xyp 0 c) (oW c 0) ∗ ownsAny (xyp 0 c) (oW c 1))
            ∗ (ownsAny (xyp 1 c) (oW c 0) ∗ ownsAny (xyp 1 c) (oW c 1))
            ∗ (ownsAny (xyp 2 c) (oW c 0) ∗ ownsAny (xyp 2 c) (oW c 1))) -∗ WP c (k ⟨⟩) Q)
          -∗ WP c (.op (.semWait q z) k) Q) := by
  unfold St
  rw [hdn, hev]
  have h := step_waitS m c (dnAt n) (scr0.drop (n + 1)) (Q := Q) (k := k) xyS hab hq hz
  rw [pay_xy, pay_xy, pay_xy] at h
  exact h

/-- A wait for a peer's transfer. -/
theorem wait_in (r : Role) (hev : scr0.drop n = Ev.waitL (.dma (sm r)) :: scr0.drop (n + 1)) (hdn : dnAt (n + 1) = .dma (sm r) :: dnAt n)
    (hab : above (lvS (.dma (sm r))) (scr0.drop (n + 1)) = true)
    {α : Type} {Q : α → sProp 𝕄} {q : DmaSem sig} (hq : q = sm r)
    {sp sp' : Space} {sh sh' : Shape} {et et' : EltTy} {src : Memref sig .tc sp' sh' et'} {dst : Memref sig .tc sp sh et}
    (hN : RefSig.tileCredit sh et = amtR r) {hsrc : src.view.WordExact} {hdst : dst.view.WordExact}
    {k : PUnit → Prog (TpuEff nD τ sig (Elt F) Λ₀ .tc) α} :
    St m c n
      ⊢ iprop(((St m c (n + 1) ∗ payR m c r) -∗ WP c (k ⟨⟩) Q)
          -∗ WP c (.op (.waitDma2 q src dst hsrc hdst) k) Q) := by
  unfold St
  rw [hdn, hev]
  exact step_waitL m c (dnAt n) (scr0.drop (n + 1)) r hab hq hN

/-- A wait for one of the device's own transfers. -/
theorem wait_out (r : Role) (hev : scr0.drop n = Ev.wait r :: scr0.drop (n + 1)) (hdn : dnAt (n + 1) = .dma (sm r) :: dnAt n)
    (hab : above (lvS (.dma (sm r))) (scr0.drop (n + 1)) = true)
    {α : Type} {Q : α → sProp 𝕄} {q : DmaSem sig} (hq : q = sm r)
    {sp sp' : Space} {sh sh' : Shape} {et et' : EltTy} {src : Memref sig .tc sp' sh' et'} {dst : Memref sig .tc sp sh et}
    (hN : RefSig.tileCredit sh et = amtR r) {hsrc : src.view.WordExact} {hdst : dst.view.WordExact}
    {k : PUnit → Prog (TpuEff nD τ sig (Elt F) Λ₀ .tc) α} :
    iprop(St m c n ∗ crd c (.dma (sm r)))
      ⊢ iprop(((St m c (n + 1) ∗ payR m c r) -∗ WP c (k ⟨⟩) Q)
          -∗ WP c (.op (.waitDma2 q src dst hsrc hdst) k) Q) := by
  unfold St
  rw [hdn, hev]
  exact step_wait m c (dnAt n) (scr0.drop (n + 1)) r hab hq hN

/-! ### The accumulator -/

/-- A load of 128 rows of one half of the accumulator. -/
theorem load_acc (s : Fin 2) (z : ℕ) (hz : z < 4) (D : S512x256.Idx → Elt F .f32) {off : Fin 2 → ℕ} (hoff : off = ![128 * z, 256 * s.val])
    {inb : ∀ a, off a + S128x256.size a ≤ S512x512.size a} {α : Type} {Q : α → sProp 𝕄}
    {hl : aM.view.LoadsAt (Rect.unit (s := S512x512) off S128x256.size inb).toLoadRect}
    {k : (S128x256.Idx → Elt F .f32) → Prog (TpuEff nD τ sig (Elt F) Λ₀ .tc) α} :
    (ownsTc c (aH s) fullShare D : sProp 𝕄)
      ⊢ iprop((ownsTc c (aH s) fullShare D -∗ WP c (k (blk z hz D)) Q)
          -∗ WP c (.op (.load aM (Rect.unit (s := S512x512) off S128x256.size inb).toLoadRect hl) k) Q) := by
  subst hoff
  refine load_in c aM (rH s) (Rect.unit (s := S512x512) ![128 * z, 256 * s.val] S128x256.size inb) (fun _ => rfl) fullShare D (blk z hz D) fun j => ?_
  refine ⟨ix2 ⟨128 * z + (j 0).val, by have : (j 0).val < 128 := (j 0).isLt; omega⟩ (j 1), ?_, rfl⟩
  funext a
  apply Fin.ext
  rw [Rect.emb_apply, Rect.emb_apply]
  fin_cases a
  · show 128 * z + 1 * (j 0).val = 0 + 1 * (128 * z + (j 0).val); omega
  · rfl

/-- A load of one half whose result is dropped, and a store over one half. -/
theorem load_half (s : Fin 2) {α : Type} {Q : α → sProp 𝕄} {hl : aM.view.LoadsAt (rH s).toLoadRect}
    {p : Prog (TpuEff nD τ sig (Elt F) Λ₀ .tc) α} :
    (ownsAny c (aH s) : sProp 𝕄)
      ⊢ iprop((ownsAny c (aH s) -∗ WP c p Q) -∗ WP c (.op (.load aM (rH s).toLoadRect hl) fun _ => p) Q) :=
  load_any c aM (rH s) (fun _ => rfl)
theorem store_half (s : Fin 2) {α : Type} {Q : α → sProp 𝕄} (w : S512x256.Idx → Elt F .f32)
    {hx : (aM.access (rH s)).Stores Finset.univ} {hm : Finset.univ = Finset.univ ∨ ∀ a, (rH s).stride a = 1}
    {k : PUnit → Prog (TpuEff nD τ sig (Elt F) Λ₀ .tc) α} :
    (ownsAny c (aH s) : sProp 𝕄)
      ⊢ iprop((ownsTc c (aH s) fullShare w -∗ WP c (k ⟨⟩) Q) -∗ WP c (.op (.store aM (rH s) w Finset.univ hx hm) k) Q) :=
  store_eq c aM (rH s) (fun _ => rfl) w

/-! ### The slots -/

/-- Loads and stores of the exchange buffers' slots. -/
theorem load_bs_any (s : Fin 2) (o : Fin 3) {α : Type} {Q : α → sProp 𝕄} {hl : bsM.view.LoadsAt (rB s o).toLoadRect}
    {p : Prog (TpuEff nD τ sig (Elt F) Λ₀ .tc) α} :
    (ownsAny c (bsl s o) : sProp 𝕄)
      ⊢ iprop((ownsAny c (bsl s o) -∗ WP c p Q) -∗ WP c (.op (.load bsM (rB s o).toLoadRect hl) fun _ => p) Q) :=
  load_slot_any c bsM (rB s o) (fun _ => rfl) squeezes_S1x1x128x256_S128x256 shapeCasts_S128x256_S1x1x128x256
theorem store_bs (s : Fin 2) (o : Fin 3) {α : Type} {Q : α → sProp 𝕄} (X : S128x256.Idx → Elt F .bf16) {w : S1x1x128x256.Idx → Elt F .bf16}
    (hw : w = shapeCast S1x1x128x256 X shapeCasts_S128x256_S1x1x128x256)
    {hx : (bsM.access (rB s o)).Stores Finset.univ} {hm : Finset.univ = Finset.univ ∨ ∀ a, (rB s o).stride a = 1}
    {k : PUnit → Prog (TpuEff nD τ sig (Elt F) Λ₀ .tc) α} :
    (ownsAny c (bsl s o) : sProp 𝕄)
      ⊢ iprop((ownsTc c (bsl s o) fullShare X -∗ WP c (k ⟨⟩) Q) -∗ WP c (.op (.store bsM (rB s o) w Finset.univ hx hm) k) Q) :=
  store_slot c bsM (rB s o) (fun _ => rfl) squeezes_S1x1x128x256_S128x256 shapeCasts_S128x256_S1x1x128x256 X hw
theorem load_br (s : Fin 2) (o : Fin 3) {α : Type} {Q : α → sProp 𝕄} (X : S128x256.Idx → Elt F .bf16) {hl : brM.view.LoadsAt (rB s o).toLoadRect}
    {k : (S1x1x128x256.Idx → Elt F .bf16) → Prog (TpuEff nD τ sig (Elt F) Λ₀ .tc) α} :
    (ownsTc c (brl s o) fullShare X : sProp 𝕄)
      ⊢ iprop((ownsTc c (brl s o) fullShare X -∗ WP c (k (shapeCast S1x1x128x256 X shapeCasts_S128x256_S1x1x128x256)) Q)
          -∗ WP c (.op (.load brM (rB s o).toLoadRect hl) k) Q) :=
  load_slot c brM (rB s o) (fun _ => rfl) squeezes_S1x1x128x256_S128x256 shapeCasts_S128x256_S1x1x128x256 fullShare X
theorem load_pc_any (s : Fin 2) {α : Type} {Q : α → sProp 𝕄} {hl : pcM.view.LoadsAt (rP s).toLoadRect}
    {p : Prog (TpuEff nD τ sig (Elt F) Λ₀ .tc) α} :
    (ownsAny c (pcl s) : sProp 𝕄)
      ⊢ iprop((ownsAny c (pcl s) -∗ WP c p Q) -∗ WP c (.op (.load pcM (rP s).toLoadRect hl) fun _ => p) Q) :=
  load_slot_any c pcM (rP s) (fun _ => rfl) squeezes_S1x128x256_S128x256 shapeCasts_S128x256_S1x128x256
theorem store_pc (s : Fin 2) {α : Type} {Q : α → sProp 𝕄} (X : S128x256.Idx → Elt F .bf16) {w : S1x128x256.Idx → Elt F .bf16}
    (hw : w = shapeCast S1x128x256 X shapeCasts_S128x256_S1x128x256)
    {hx : (pcM.access (rP s)).Stores Finset.univ} {hm : Finset.univ = Finset.univ ∨ ∀ a, (rP s).stride a = 1}
    {k : PUnit → Prog (TpuEff nD τ sig (Elt F) Λ₀ .tc) α} :
    (ownsAny c (pcl s) : sProp 𝕄)
      ⊢ iprop((ownsTc c (pcl s) fullShare X -∗ WP c (k ⟨⟩) Q) -∗ WP c (.op (.store pcM (rP s) w Finset.univ hx hm) k) Q) :=
  store_slot c pcM (rP s) (fun _ => rfl) squeezes_S1x128x256_S128x256 shapeCasts_S128x256_S1x128x256 X hw

/-- The piece buffer's slot shared between the four transfers out of it. -/
theorem share_pc (s : Fin 2) (X : S128x256.Idx → Elt F .bf16) : (ownsTc c (pcl s) fullShare X : sProp 𝕄)
    ⊢ iprop(ownsTc c (pcl s) (shr 0) X ∗ ownsTc c (pcl s) (shr 1) X ∗ ownsTc c (pcl s) (shr 2) X
        ∗ ownsTc c (pcl s) fullShare.right.right X) := by
  iintro H
  ihave H := (owns_halves (c : Thread nD τ) (pcl s) fullShare X).1 $$ H
  icases H with ⟨HL, HR⟩
  ihave HL := (owns_halves (c : Thread nD τ) (pcl s) fullShare.left X).1 $$ HL
  icases HL with ⟨H0, H1⟩
  ihave HR := (owns_halves (c : Thread nD τ) (pcl s) fullShare.right X).1 $$ HR
  icases HR with ⟨H2, H3⟩
  isplitl [H0]; · iexact H0
  isplitl [H1]; · iexact H1
  isplitl [H2]; · iexact H2
  iexact H3
/-- The shares joined again. -/
theorem unshare_pc (s : Fin 2) (X : S128x256.Idx → Elt F .bf16) :
    iprop(ownsTc c (pcl s) (shr 0) X ∗ ownsTc c (pcl s) (shr 1) X ∗ ownsTc c (pcl s) (shr 2) X
        ∗ ownsTc c (pcl s) fullShare.right.right X) ⊢ (ownsTc c (pcl s) fullShare X : sProp 𝕄) := by
  iintro ⟨H0, H1, H2, H3⟩
  iapply (owns_halves (c : Thread nD τ) (pcl s) fullShare X).2
  isplitl [H0 H1]
  · iapply (owns_halves (c : Thread nD τ) (pcl s) fullShare.left X).2
    isplitl [H0]; · iexact H0
    iexact H1
  iapply (owns_halves (c : Thread nD τ) (pcl s) fullShare.right X).2
  isplitl [H2]; · iexact H2
  iexact H3

/-! ### Ends and joints of the parts -/

/-- A program that has ended. -/
theorem wp_done {α : Type} {Q : α → sProp 𝕄} (a : α) : Q a ⊢ WP c (.ret a) Q := by
  unfold WP; rw [wp_ret]; exact fupd_intro

/-- A part of the program, then the rest. -/
theorem wp_seq {α β : Type} {P : sProp 𝕄} {p : Prog (TpuEff nD τ sig (Elt F) Λ₀ .tc) α} {φ : α → Prop} {R : sProp 𝕄}
    (h : P ⊢ WP c p (fun r => iprop(⌜φ r⌝ ∗ R))) {k : α → Prog (TpuEff nD τ sig (Elt F) Λ₀ .tc) β} {Q : β → sProp 𝕄} :
    P ⊢ iprop((∀ r, iprop(⌜φ r⌝ ∗ R) -∗ WP c (k r) Q) -∗ WP c (p >>= k) Q) := by
  unfold WP
  rw [wp_bind]
  exact h.trans (wp_wand _ _ _)

/-- What a run ends with may be weakened. -/
theorem wp_wand_run {α : Type} {P : sProp 𝕄} {p : Prog (TpuEff nD τ sig (Elt F) Λ₀ .tc) α} {Q R : α → sProp 𝕄}
    (h : P ⊢ WP c p Q) : P ⊢ iprop((∀ r, Q r -∗ R r) -∗ WP c p R) := by
  unfold WP
  exact h.trans (wp_wand _ _ _)

end Rules

end Cert.KProof
-- ==== Proof.Body1.lean ====
/-
# The body, part by part (handshakes and the first product)

Each part of the body takes the device from one event of the script to a later one; the statement names the
buffers the part uses and what they hold after it.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

theorem part1_wp  :
    iprop(St m c 0 ∗ ownsAny c (brl 0 2) ∗ ownsAny c (brl 1 2))
      ⊢ WP c (k0_part1 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 ) (fun r => iprop(⌜r.1 = c ∧ r.2.2.2.2.2.1.sem = barS⌝ ∗ St m c 1)) := by
  simp only [k0_part1_eq_skeleton]
  unfold k0_part1_skel
  simp only [semSignalWord, semWaitWord, Prog.lift, Prog.bind_op, Prog.bind_ret, Prog.pure_eq_ret, wp_deviceId]
  iintro ⟨HS, Hr02, Hr12⟩
  iapply (sig_b m c 0 0 rfl rfl (dev1_eq c) sem_bar (by decide)) $$ [HS Hr02 Hr12]
  · isplitl [HS]; · iexact HS
    isplitl [Hr02]; · iexact Hr02
    iexact Hr12
  iintro HS
  iapply (wp_done c)
  isplitr; · ipureintro; exact ⟨rfl, sem_bar⟩
  iexact HS

theorem part2_wp {v2 v5 v8 v31 v32 : BitVec 32} {v11 : Sems sig S_} {v33 : BitVec 1} (hv : v11.sem = barS) :
    iprop(St m c 1 ∗ ownsAny c (brl 0 1) ∗ ownsAny c (brl 1 1) ∗ ownsAny c (brl 0 0) ∗ ownsAny c (brl 1 0))
      ⊢ WP c (k0_part2 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v11 v31 v32 v33) (fun r => iprop(⌜True⌝ ∗ St m c 3)) := by
  simp only [k0_part2_eq_skeleton]
  unfold k0_part2_skel
  simp only [semSignalWord, semWaitWord, Prog.lift, Prog.bind_op, Prog.bind_ret, Prog.pure_eq_ret, wp_deviceId]
  iintro ⟨HS, Hr01, Hr11, Hr00, Hr10⟩
  iapply (sig_b m c 1 1 rfl rfl (dev2_eq c) hv (by decide)) $$ [HS Hr01 Hr11]
  · isplitl [HS]; · iexact HS
    isplitl [Hr01]; · iexact Hr01
    iexact Hr11
  iintro HS
  iapply (sig_b m c 2 2 rfl rfl (dev3_eq c) hv (by decide)) $$ [HS Hr00 Hr10]
  · isplitl [HS]; · iexact HS
    isplitl [Hr00]; · iexact Hr00
    iexact Hr10
  iintro HS
  iapply (wp_done c)
  isplitr; · ipureintro; trivial
  iexact HS

theorem part3_wp {v2 v5 v8 v10 v63 v64 v65 v66 v8' : BitVec 32} :
    iprop(St m c 3 ∗ ownsAny c (oW (xyp 0 c) 0) ∗ ownsAny c (oW (xyp 0 c) 1) ∗ ownsAny c (oW (xyp 1 c) 0) ∗ ownsAny c (oW (xyp 1 c) 1) ∗ ownsAny c (oW (xyp 2 c) 0) ∗ ownsAny c (oW (xyp 2 c) 1) ∗ ownsTc c xM fullShare (xa m c) ∗ ownsAny c xvM ∗ ownsTc c (yW c 0) fullShare.left (yc m c 0) ∗ ownsAny c (yvH 0))
      ⊢ WP c (k0_part3 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v10 v63 v64 v65 v66 v8') (fun r => iprop(⌜True⌝ ∗ St m c 8 ∗ crd c (.dma (sm (.cp 0))) ∗ crd c (.dma (sm (.cp 1))))) := by
  simp only [k0_part3_eq_skeleton]
  unfold k0_part3_skel
  simp only [semSignalWord, semWaitWord, Prog.lift, Prog.bind_op, Prog.bind_ret, Prog.pure_eq_ret, wp_deviceId]
  iintro ⟨HS, Ho00, Ho01, Ho10, Ho11, Ho20, Ho21, Hx, Hxv, Hy0, Hyv0⟩
  iapply (sig_x m c 3 0 rfl rfl (dev4_eq c) sem_xy (by decide)) $$ [HS Ho00 Ho01]
  · isplitl [HS]; · iexact HS
    isplitl [Ho00]; · iexact Ho00
    iexact Ho01
  iintro HS
  iapply (sig_x m c 4 1 rfl rfl (dev5_eq c) sem_xy (by decide)) $$ [HS Ho10 Ho11]
  · isplitl [HS]; · iexact HS
    isplitl [Ho10]; · iexact Ho10
    iexact Ho11
  iintro HS
  iapply (sig_x m c 5 2 rfl rfl (dev6_eq c) sem_xy (by decide)) $$ [HS Ho20 Ho21]
  · isplitl [HS]; · iexact HS
    isplitl [Ho20]; · iexact Ho20
    iexact Ho21
  iintro HS
  iapply (copy_x m c 6 rfl rfl sem_cp0) $$ [HS Hx Hxv]
  · isplitl [HS]; · iexact HS
    isplitl [Hx]; · iexact Hx
    iexact Hxv
  iintro ⟨HS, Hc0⟩
  iapply (copy_y0 m c 7 rfl rfl sem_cp1) $$ [HS Hy0 Hyv0]
  · isplitl [HS]; · iexact HS
    isplitl [Hy0]; · iexact Hy0
    iexact Hyv0
  iintro ⟨HS, Hc1⟩
  iapply (wp_done c)
  isplitr; · ipureintro; trivial
  isplitl [HS]; · iexact HS
  isplitl [Hc0]; · iexact Hc0
  iexact Hc1

theorem part4_wp {v8 : BitVec 32} {v11 : Sems sig S_} (hv : v11.sem = barS) :
    iprop(St m c 8 ∗ crd c (.dma (sm (.cp 0))) ∗ crd c (.dma (sm (.cp 1))) ∗ ownsTc c (yW c 1) fullShare.right (yc m c 1) ∗ ownsAny c (yvH 1) ∗ ownsAny c (aH 0))
      ⊢ WP c (k0_part4 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v8 v11) (fun r => iprop(⌜r.1 = k0_pay1 (xa m c) ∧ r.2.2 = snd m c 0 0⌝ ∗ St m c 12 ∗ crd c (.dma (sm (.cp 2))) ∗ ownsTc c xM fullShare (xa m c) ∗ ownsTc c xvM fullShare (xa m c) ∗ ownsTc c (yW c 0) fullShare.left (yc m c 0) ∗ ownsTc c (yvH 0) fullShare (yc m c 0) ∗ ownsTc c (aH 0) fullShare (dot m c 0) ∗ ownsAny (zp 0 c) (brl 0 0) ∗ ownsAny (zp 0 c) (brl 1 0) ∗ ownsAny (zp 1 c) (brl 0 1) ∗ ownsAny (zp 1 c) (brl 1 1) ∗ ownsAny (zp 2 c) (brl 0 2) ∗ ownsAny (zp 2 c) (brl 1 2))) := by
  simp only [k0_part4_eq_skeleton]
  unfold k0_part4_skel
  simp only [semSignalWord, semWaitWord, Prog.lift, Prog.bind_op, Prog.bind_ret, Prog.pure_eq_ret, wp_deviceId]
  iintro ⟨HS, Hc0, Hc1, Hy1, Hyv1, Ha⟩
  iapply (copy_y1 m c 8 rfl rfl sem_cp2) $$ [HS Hy1 Hyv1]
  · isplitl [HS]; · iexact HS
    isplitl [Hy1]; · iexact Hy1
    iexact Hyv1
  iintro ⟨HS, Hc2⟩
  iapply (wait_out m c 9 (.cp 0) rfl rfl (by decide) sem_cp0 rfl) $$ [HS Hc0]
  · isplitl [HS]; · iexact HS
    iexact Hc0
  iintro ⟨HS, Hpay⟩
  ihave Hpay := (Entails.of_eq (pay_cp0 m c)) $$ Hpay
  icases Hpay with ⟨Hxv, Hx⟩
  iapply (load_whole c (xa m c)) $$ Hxv
  iintro Hxv
  iapply (wait_out m c 10 (.cp 1) rfl rfl (by decide) sem_cp1 rfl) $$ [HS Hc1]
  · isplitl [HS]; · iexact HS
    iexact Hc1
  iintro ⟨HS, Hpay⟩
  ihave Hpay := (Entails.of_eq (pay_cp1 m c)) $$ Hpay
  icases Hpay with ⟨Hyv0, Hy0⟩
  iapply (load_eq c yvM (rH 0) (fun _ => rfl) fullShare (yc m c 0)) $$ Hyv0
  iintro Hyv0
  iapply (load_half c 0) $$ Ha
  iintro Ha
  iapply (store_half c 0 (dot m c 0)) $$ Ha
  iintro Ha
  iapply (wait_bar m c 11 rfl rfl (by decide) hv (by decide)) $$ [HS]
  · iexact HS
  iintro ⟨HS, ⟨Hd02, Hd12⟩, ⟨Hd01, Hd11⟩, ⟨Hd00, Hd10⟩⟩
  iapply (load_acc c 0 (zOf (zp 0 c)) (zOf_lt _) (dot m c 0) (off2_eq c 0)) $$ Ha
  iintro Ha
  iapply (wp_done c)
  isplitr; · ipureintro; exact ⟨rfl, rfl⟩
  isplitl [HS]; · iexact HS
  isplitl [Hc2]; · iexact Hc2
  isplitl [Hx]; · iexact Hx
  isplitl [Hxv]; · iexact Hxv
  isplitl [Hy0]; · iexact Hy0
  isplitl [Hyv0]; · iexact Hyv0
  isplitl [Ha]; · iexact Ha
  isplitl [Hd00]; · iexact Hd00
  isplitl [Hd10]; · iexact Hd10
  isplitl [Hd01]; · iexact Hd01
  isplitl [Hd11]; · iexact Hd11
  isplitl [Hd02]; · iexact Hd02
  iexact Hd12

end Cert.KProof
-- ==== Proof.Body2.lean ====
/-
# The body, part by part (the first exchange)

The blocks of both products go to the other devices of the `z` line.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

theorem part5_wp {v2 v5 v8 v123 : BitVec 32} {v127 : FVec F S128x256 .bf16} (hv : v127 = snd m c 0 0) :
    iprop(St m c 12 ∗ ownsAny c (bsl 0 0) ∗ ownsAny (zp 0 c) (brl 0 0))
      ⊢ WP c (k0_part5 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v123 v127) (fun r => iprop(⌜True⌝ ∗ St m c 13 ∗ crd c (.dma (sm (.bs 0 0))))) := by
  simp only [k0_part5_eq_skeleton]
  unfold k0_part5_skel
  simp only [semSignalWord, semWaitWord, Prog.lift, Prog.bind_op, Prog.bind_ret, Prog.pure_eq_ret, wp_deviceId]
  iintro ⟨HS, Hb00, Hd00⟩
  subst hv
  iapply (load_bs_any c 0 0) $$ Hb00
  iintro Hb00
  iapply (store_bs c 0 0 (snd m c 0 0) rfl) $$ Hb00
  iintro Hb00
  iapply (send_b m c 12 0 0 rfl rfl (dev7_eq c) sem_bs00 sem_br00) $$ [HS Hb00 Hd00]
  · isplitl [HS]; · iexact HS
    isplitl [Hb00]; · iexact Hb00
    iexact Hd00
  iintro ⟨HS, Hcb00⟩
  iapply (wp_done c)
  isplitr; · ipureintro; trivial
  isplitl [HS]; · iexact HS
  iexact Hcb00

theorem part6_wp {v2 v5 v8 v155 : BitVec 32} :
    iprop(St m c 13 ∗ ownsTc c (aH 0) fullShare (dot m c 0) ∗ ownsAny c (bsl 0 1) ∗ ownsAny (zp 1 c) (brl 0 1))
      ⊢ WP c (k0_part6 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v155) (fun r => iprop(⌜True⌝ ∗ St m c 14 ∗ ownsTc c (aH 0) fullShare (dot m c 0) ∗ crd c (.dma (sm (.bs 0 1))))) := by
  simp only [k0_part6_eq_skeleton]
  unfold k0_part6_skel
  simp only [semSignalWord, semWaitWord, Prog.lift, Prog.bind_op, Prog.bind_ret, Prog.pure_eq_ret, wp_deviceId]
  iintro ⟨HS, Ha0, Hb01, Hd01⟩
  iapply (load_acc c 0 (zOf (zp 1 c)) (zOf_lt _) (dot m c 0) (off2_eq c 1)) $$ Ha0
  iintro Ha0
  iapply (load_bs_any c 0 1) $$ Hb01
  iintro Hb01
  iapply (store_bs c 0 1 (snd m c 0 1) rfl) $$ Hb01
  iintro Hb01
  iapply (send_b m c 13 0 1 rfl rfl (dev8_eq c) sem_bs01 sem_br01) $$ [HS Hb01 Hd01]
  · isplitl [HS]; · iexact HS
    isplitl [Hb01]; · iexact Hb01
    iexact Hd01
  iintro ⟨HS, Hcb01⟩
  iapply (wp_done c)
  isplitr; · ipureintro; trivial
  isplitl [HS]; · iexact HS
  isplitl [Ha0]; · iexact Ha0
  iexact Hcb01

theorem part7_wp {v2 v5 v187 : BitVec 32} {v102 : FVec F S512x512 .bf16} (hv : v102 = k0_pay1 (xa m c)) :
    iprop(St m c 14 ∗ ownsTc c (aH 0) fullShare (dot m c 0) ∗ ownsAny c (bsl 0 2) ∗ ownsAny (zp 2 c) (brl 0 2) ∗ crd c (.dma (sm (.cp 2))))
      ⊢ WP c (k0_part7 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v102 v187) (fun r => iprop(⌜r = k0_pay7 (k0_pay1 (xa m c)) (yc m c 1)⌝ ∗ St m c 16 ∗ ownsTc c (aH 0) fullShare (dot m c 0) ∗ crd c (.dma (sm (.bs 0 2))) ∗ ownsTc c (yvH 1) fullShare (yc m c 1) ∗ ownsTc c (yW c 1) fullShare.right (yc m c 1))) := by
  simp only [k0_part7_eq_skeleton]
  unfold k0_part7_skel
  simp only [semSignalWord, semWaitWord, Prog.lift, Prog.bind_op, Prog.bind_ret, Prog.pure_eq_ret, wp_deviceId]
  iintro ⟨HS, Ha0, Hb02, Hd02, Hc2⟩
  subst hv
  iapply (load_acc c 0 (zOf (zp 2 c)) (zOf_lt _) (dot m c 0) (off2_eq c 2)) $$ Ha0
  iintro Ha0
  iapply (load_bs_any c 0 2) $$ Hb02
  iintro Hb02
  iapply (store_bs c 0 2 (snd m c 0 2) rfl) $$ Hb02
  iintro Hb02
  iapply (send_b m c 14 0 2 rfl rfl (dev9_eq c) sem_bs02 sem_br02) $$ [HS Hb02 Hd02]
  · isplitl [HS]; · iexact HS
    isplitl [Hb02]; · iexact Hb02
    iexact Hd02
  iintro ⟨HS, Hcb02⟩
  iapply (wait_out m c 15 (.cp 2) rfl rfl (by decide) sem_cp2 rfl) $$ [HS Hc2]
  · isplitl [HS]; · iexact HS
    iexact Hc2
  iintro ⟨HS, Hpay⟩
  ihave Hpay := (Entails.of_eq (pay_cp2 m c)) $$ Hpay
  icases Hpay with ⟨Hyv1, Hy1⟩
  iapply (load_eq c yvM (rH 1) (fun _ => rfl) fullShare (yc m c 1)) $$ Hyv1
  iintro Hyv1
  iapply (wp_done c)
  isplitr; · ipureintro; rfl
  isplitl [HS]; · iexact HS
  isplitl [Ha0]; · iexact Ha0
  isplitl [Hcb02]; · iexact Hcb02
  isplitl [Hyv1]; · iexact Hyv1
  iexact Hy1

theorem part8_wp {v2 v5 v8 : BitVec 32} {v215 : FVec F S512x256 .f32} (hv : v215 = k0_pay7 (k0_pay1 (xa m c)) (yc m c 1)) :
    iprop(St m c 16 ∗ ownsAny c (aH 1) ∗ ownsAny c (bsl 1 0))
      ⊢ WP c (k0_part8 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v215) (fun r => iprop(⌜True⌝ ∗ St m c 16 ∗ ownsTc c (aH 1) fullShare (dot m c 1) ∗ ownsTc c (bsl 1 0) fullShare (snd m c 1 0))) := by
  simp only [k0_part8_eq_skeleton]
  unfold k0_part8_skel
  simp only [semSignalWord, semWaitWord, Prog.lift, Prog.bind_op, Prog.bind_ret, Prog.pure_eq_ret, wp_deviceId]
  iintro ⟨HS, Ha1, Hb10⟩
  subst hv
  iapply (load_half c 1) $$ Ha1
  iintro Ha1
  iapply (store_half c 1 (dot m c 1)) $$ Ha1
  iintro Ha1
  iapply (load_acc c 1 (zOf (zp 0 c)) (zOf_lt _) (dot m c 1) (off3_eq c 0)) $$ Ha1
  iintro Ha1
  iapply (load_bs_any c 1 0) $$ Hb10
  iintro Hb10
  iapply (store_bs c 1 0 (snd m c 1 0) rfl) $$ Hb10
  iintro Hb10
  iapply (wp_done c)
  isplitr; · ipureintro; trivial
  isplitl [HS]; · iexact HS
  isplitl [Ha1]; · iexact Ha1
  iexact Hb10

theorem part9_wp {v2 v5 v8 : BitVec 32} :
    iprop(St m c 16 ∗ ownsTc c (aH 1) fullShare (dot m c 1) ∗ ownsTc c (bsl 1 0) fullShare (snd m c 1 0) ∗ ownsAny (zp 0 c) (brl 1 0) ∗ ownsAny c (bsl 1 1))
      ⊢ WP c (k0_part9 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8) (fun r => iprop(⌜True⌝ ∗ St m c 17 ∗ ownsTc c (aH 1) fullShare (dot m c 1) ∗ crd c (.dma (sm (.bs 1 0))) ∗ ownsTc c (bsl 1 1) fullShare (snd m c 1 1))) := by
  simp only [k0_part9_eq_skeleton]
  unfold k0_part9_skel
  simp only [semSignalWord, semWaitWord, Prog.lift, Prog.bind_op, Prog.bind_ret, Prog.pure_eq_ret, wp_deviceId]
  iintro ⟨HS, Ha1, Hb10, Hd10, Hb11⟩
  iapply (send_b m c 16 1 0 rfl rfl (dev10_eq c) sem_bs10 sem_br10) $$ [HS Hb10 Hd10]
  · isplitl [HS]; · iexact HS
    isplitl [Hb10]; · iexact Hb10
    iexact Hd10
  iintro ⟨HS, Hcb10⟩
  iapply (load_acc c 1 (zOf (zp 1 c)) (zOf_lt _) (dot m c 1) (off3_eq c 1)) $$ Ha1
  iintro Ha1
  iapply (load_bs_any c 1 1) $$ Hb11
  iintro Hb11
  iapply (store_bs c 1 1 (snd m c 1 1) rfl) $$ Hb11
  iintro Hb11
  iapply (wp_done c)
  isplitr; · ipureintro; trivial
  isplitl [HS]; · iexact HS
  isplitl [Ha1]; · iexact Ha1
  isplitl [Hcb10]; · iexact Hcb10
  iexact Hb11

theorem part10_wp {v2 v5 v8 : BitVec 32} :
    iprop(St m c 17 ∗ ownsTc c (aH 1) fullShare (dot m c 1) ∗ ownsTc c (bsl 1 1) fullShare (snd m c 1 1) ∗ ownsAny (zp 1 c) (brl 1 1) ∗ ownsAny c (bsl 1 2))
      ⊢ WP c (k0_part10 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8) (fun r => iprop(⌜True⌝ ∗ St m c 18 ∗ ownsTc c (aH 1) fullShare (dot m c 1) ∗ crd c (.dma (sm (.bs 1 1))) ∗ ownsTc c (bsl 1 2) fullShare (snd m c 1 2))) := by
  simp only [k0_part10_eq_skeleton]
  unfold k0_part10_skel
  simp only [semSignalWord, semWaitWord, Prog.lift, Prog.bind_op, Prog.bind_ret, Prog.pure_eq_ret, wp_deviceId]
  iintro ⟨HS, Ha1, Hb11, Hd11, Hb12⟩
  iapply (send_b m c 17 1 1 rfl rfl (dev11_eq c) sem_bs11 sem_br11) $$ [HS Hb11 Hd11]
  · isplitl [HS]; · iexact HS
    isplitl [Hb11]; · iexact Hb11
    iexact Hd11
  iintro ⟨HS, Hcb11⟩
  iapply (load_acc c 1 (zOf (zp 2 c)) (zOf_lt _) (dot m c 1) (off3_eq c 2)) $$ Ha1
  iintro Ha1
  iapply (load_bs_any c 1 2) $$ Hb12
  iintro Hb12
  iapply (store_bs c 1 2 (snd m c 1 2) rfl) $$ Hb12
  iintro Hb12
  iapply (wp_done c)
  isplitr; · ipureintro; trivial
  isplitl [HS]; · iexact HS
  isplitl [Ha1]; · iexact Ha1
  isplitl [Hcb11]; · iexact Hcb11
  iexact Hb12

theorem part11_wp {v2 v5 v123 v293 v304 w : BitVec 32} :
    iprop(St m c 18 ∗ ownsTc c (bsl 1 2) fullShare (snd m c 1 2) ∗ ownsAny (zp 2 c) (brl 1 2))
      ⊢ WP c (k0_part11 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v123 v293 v304 w) (fun r => iprop(⌜True⌝ ∗ St m c 20 ∗ crd c (.dma (sm (.bs 1 2))) ∗ ownsTc c (brl 0 0) fullShare (rcv m c 0 0))) := by
  simp only [k0_part11_eq_skeleton]
  unfold k0_part11_skel
  simp only [semSignalWord, semWaitWord, Prog.lift, Prog.bind_op, Prog.bind_ret, Prog.pure_eq_ret, wp_deviceId]
  iintro ⟨HS, Hb12, Hd12⟩
  iapply (send_b m c 18 1 2 rfl rfl (dev12_eq c) sem_bs12 sem_br12) $$ [HS Hb12 Hd12]
  · isplitl [HS]; · iexact HS
    isplitl [Hb12]; · iexact Hb12
    iexact Hd12
  iintro ⟨HS, Hcb12⟩
  iapply (wait_in m c 19 (.br 0 0) rfl rfl (by decide) sem_br00 rfl) $$ [HS]
  · iexact HS
  iintro ⟨HS, Hpay⟩
  ihave Hpay := (Entails.of_eq (pay_br m c 0 0)) $$ Hpay
  icases Hpay with Hr00
  iapply (wp_done c)
  isplitr; · ipureintro; trivial
  isplitl [HS]; · iexact HS
  isplitl [Hcb12]; · iexact Hcb12
  iexact Hr00

end Cert.KProof
-- ==== Proof.Body3.lean ====
/-
# The body, part by part (the sums and the second exchange)

The received blocks are added and the pieces go to the other devices of the `x, y` plane.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

theorem pay12_eq : k0_pay12 (blk (zOf c) (zOf_lt _) (dot m c 0)) (shapeCast S1x1x128x256 (rcv m c 0 0) shapeCasts_S128x256_S1x1x128x256) (shapeCast S1x1x128x256 (rcv m c 0 1) shapeCasts_S128x256_S1x1x128x256) (shapeCast S1x1x128x256 (rcv m c 0 2) shapeCasts_S128x256_S1x1x128x256)
    = shapeCast S1x128x256 (piece m c 0) shapeCasts_S128x256_S1x128x256 := by
  unfold k0_pay12 piece sum4
  simp only [shapeCast_shapeCast]
theorem pay14_eq : k0_pay14 (k0_pay13 (blk (zOf c) (zOf_lt _) (dot m c 1)) (shapeCast S1x1x128x256 (rcv m c 1 0) shapeCasts_S128x256_S1x1x128x256)) (shapeCast S1x1x128x256 (rcv m c 1 1) shapeCasts_S128x256_S1x1x128x256) (shapeCast S1x1x128x256 (rcv m c 1 2) shapeCasts_S128x256_S1x1x128x256)
    = shapeCast S1x128x256 (piece m c 1) shapeCasts_S128x256_S1x128x256 := by
  unfold k0_pay14 k0_pay13 piece sum4
  simp only [shapeCast_shapeCast]

theorem part12_wp {v2 v5 v8 v155 v187 : BitVec 32} :
    iprop(St m c 20 ∗ ownsTc c (aH 0) fullShare (dot m c 0) ∗ ownsTc c (brl 0 0) fullShare (rcv m c 0 0))
      ⊢ WP c (k0_part12 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v155 v187) (fun r => iprop(⌜r.1 = blk (zOf c) (zOf_lt _) (dot m c 0) ∧ r.2 = shapeCast S1x1x128x256 (rcv m c 0 0) shapeCasts_S128x256_S1x1x128x256⌝ ∗ St m c 22 ∗ ownsTc c (aH 0) fullShare (dot m c 0) ∗ ownsTc c (brl 0 0) fullShare (rcv m c 0 0) ∗ ownsTc c (brl 0 1) fullShare (rcv m c 0 1) ∗ ownsTc c (brl 0 2) fullShare (rcv m c 0 2))) := by
  simp only [k0_part12_eq_skeleton]
  unfold k0_part12_skel
  simp only [semSignalWord, semWaitWord, Prog.lift, Prog.bind_op, Prog.bind_ret, Prog.pure_eq_ret, wp_deviceId]
  iintro ⟨HS, Ha0, Hr00⟩
  iapply (wait_in m c 20 (.br 0 1) rfl rfl (by decide) sem_br01 rfl) $$ [HS]
  · iexact HS
  iintro ⟨HS, Hpay⟩
  ihave Hpay := (Entails.of_eq (pay_br m c 0 1)) $$ Hpay
  icases Hpay with Hr01
  iapply (wait_in m c 21 (.br 0 2) rfl rfl (by decide) sem_br02 rfl) $$ [HS]
  · iexact HS
  iintro ⟨HS, Hpay⟩
  ihave Hpay := (Entails.of_eq (pay_br m c 0 2)) $$ Hpay
  icases Hpay with Hr02
  iapply (load_acc c 0 (zOf c) (zOf_lt _) (dot m c 0) (off4_eq c)) $$ Ha0
  iintro Ha0
  iapply (load_br c 0 0 (rcv m c 0 0)) $$ Hr00
  iintro Hr00
  iapply (wp_done c)
  isplitr; · ipureintro; exact ⟨rfl, rfl⟩
  isplitl [HS]; · iexact HS
  isplitl [Ha0]; · iexact Ha0
  isplitl [Hr00]; · iexact Hr00
  isplitl [Hr01]; · iexact Hr01
  iexact Hr02

theorem part13_wp {v5 v8 v10 v315 : BitVec 32} {v357 : Vec F S128x256 .f32} {v358 : Vec F S1x1x128x256 .bf16} (hv : v357 = blk (zOf c) (zOf_lt _) (dot m c 0)) (hw : v358 = shapeCast S1x1x128x256 (rcv m c 0 0) shapeCasts_S128x256_S1x1x128x256) :
    iprop(St m c 22 ∗ ownsTc c (brl 0 1) fullShare (rcv m c 0 1) ∗ ownsTc c (brl 0 2) fullShare (rcv m c 0 2) ∗ ownsAny c (pcl 0))
      ⊢ WP c (k0_part13 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v5 v8 v10 v315 v357 v358) (fun r => iprop(⌜True⌝ ∗ St m c 24 ∗ ownsTc c (brl 0 1) fullShare (rcv m c 0 1) ∗ ownsTc c (brl 0 2) fullShare (rcv m c 0 2) ∗ ownsTc c (pcl 0) (shr 1) (piece m c 0) ∗ ownsTc c (pcl 0) (shr 2) (piece m c 0) ∗ ownsTc c (pcl 0) fullShare.right.right (piece m c 0) ∗ ownsAny (xyp 1 c) (oW c 0) ∗ ownsAny (xyp 2 c) (oW c 0) ∗ ownsAny (xyp 0 c) (oW c 1) ∗ ownsAny (xyp 1 c) (oW c 1) ∗ ownsAny (xyp 2 c) (oW c 1) ∗ crd c (.dma (sm (.cs 0 0))))) := by
  simp only [k0_part13_eq_skeleton]
  unfold k0_part13_skel
  simp only [semSignalWord, semWaitWord, Prog.lift, Prog.bind_op, Prog.bind_ret, Prog.pure_eq_ret, wp_deviceId]
  iintro ⟨HS, Hr01, Hr02, Hp0⟩
  subst hv hw
  iapply (load_br c 0 1 (rcv m c 0 1)) $$ Hr01
  iintro Hr01
  iapply (load_br c 0 2 (rcv m c 0 2)) $$ Hr02
  iintro Hr02
  iapply (load_pc_any c 0) $$ Hp0
  iintro Hp0
  iapply (store_pc c 0 (piece m c 0) (pay12_eq m c)) $$ Hp0
  iintro Hp0
  ihave Hp0 := (share_pc c 0 (piece m c 0)) $$ Hp0
  icases Hp0 with ⟨Hp00, Hp01, Hp02, Hp03⟩
  iapply (wait_xy m c 22 rfl rfl (by decide) sem_xy (by decide)) $$ [HS]
  · iexact HS
  iintro ⟨HS, ⟨Hq00, Hq10⟩, ⟨Hq01, Hq11⟩, ⟨Hq02, Hq12⟩⟩
  iapply (send_c m c 23 0 0 rfl rfl (dev13_eq c) sem_cs00 sem_cr00) $$ [HS Hp00 Hq00]
  · isplitl [HS]; · iexact HS
    isplitl [Hp00]; · iexact Hp00
    iexact Hq00
  iintro ⟨HS, Hcc00⟩
  iapply (wp_done c)
  isplitr; · ipureintro; trivial
  isplitl [HS]; · iexact HS
  isplitl [Hr01]; · iexact Hr01
  isplitl [Hr02]; · iexact Hr02
  isplitl [Hp01]; · iexact Hp01
  isplitl [Hp02]; · iexact Hp02
  isplitl [Hp03]; · iexact Hp03
  isplitl [Hq01]; · iexact Hq01
  isplitl [Hq02]; · iexact Hq02
  isplitl [Hq10]; · iexact Hq10
  isplitl [Hq11]; · iexact Hq11
  isplitl [Hq12]; · iexact Hq12
  iexact Hcc00

theorem part14_wp {v2 v8 v10 v316 v317 v318 : BitVec 32} :
    iprop(St m c 24 ∗ ownsTc c (pcl 0) (shr 1) (piece m c 0) ∗ ownsTc c (pcl 0) (shr 2) (piece m c 0) ∗ ownsAny (xyp 1 c) (oW c 0) ∗ ownsAny (xyp 2 c) (oW c 0))
      ⊢ WP c (k0_part14 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v8 v10 v316 v317 v318) (fun r => iprop(⌜True⌝ ∗ St m c 26 ∗ crd c (.dma (sm (.cs 0 1))) ∗ crd c (.dma (sm (.cs 0 2))))) := by
  simp only [k0_part14_eq_skeleton]
  unfold k0_part14_skel
  simp only [semSignalWord, semWaitWord, Prog.lift, Prog.bind_op, Prog.bind_ret, Prog.pure_eq_ret, wp_deviceId]
  iintro ⟨HS, Hp01, Hp02, Hq01, Hq02⟩
  iapply (send_c m c 24 0 1 rfl rfl (dev14_eq c) sem_cs01 sem_cr01) $$ [HS Hp01 Hq01]
  · isplitl [HS]; · iexact HS
    isplitl [Hp01]; · iexact Hp01
    iexact Hq01
  iintro ⟨HS, Hcc01⟩
  iapply (send_c m c 25 0 2 rfl rfl (dev15_eq c) sem_cs02 sem_cr02) $$ [HS Hp02 Hq02]
  · isplitl [HS]; · iexact HS
    isplitl [Hp02]; · iexact Hp02
    iexact Hq02
  iintro ⟨HS, Hcc02⟩
  iapply (wp_done c)
  isplitr; · ipureintro; trivial
  isplitl [HS]; · iexact HS
  isplitl [Hcc01]; · iexact Hcc01
  iexact Hcc02

theorem part15_wp {v2 v5 v10 v229 : BitVec 32} :
    iprop(St m c 26 ∗ ownsTc c (pcl 0) fullShare.right.right (piece m c 0) ∗ ownsAny c (oW c 0))
      ⊢ WP c (k0_part15 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v10 v229) (fun r => iprop(⌜True⌝ ∗ St m c 28 ∗ crd c (.dma (sm (.own 0))) ∗ ownsTc c (brl 1 0) fullShare (rcv m c 1 0))) := by
  simp only [k0_part15_eq_skeleton]
  unfold k0_part15_skel
  simp only [semSignalWord, semWaitWord, Prog.lift, Prog.bind_op, Prog.bind_ret, Prog.pure_eq_ret, wp_deviceId]
  iintro ⟨HS, Hp03, How0⟩
  iapply (copy_own m c 26 0 rfl rfl sem_own0) $$ [HS Hp03 How0]
  · isplitl [HS]; · iexact HS
    isplitl [Hp03]; · iexact Hp03
    iexact How0
  iintro ⟨HS, Hco0⟩
  iapply (wait_in m c 27 (.br 1 0) rfl rfl (by decide) sem_br10 rfl) $$ [HS]
  · iexact HS
  iintro ⟨HS, Hpay⟩
  ihave Hpay := (Entails.of_eq (pay_br m c 1 0)) $$ Hpay
  icases Hpay with Hr10
  iapply (wp_done c)
  isplitr; · ipureintro; trivial
  isplitl [HS]; · iexact HS
  isplitl [Hco0]; · iexact Hco0
  iexact Hr10

theorem part16_wp {v2 v5 v8 v261 v293 v441 w : BitVec 32} :
    iprop(St m c 28 ∗ ownsTc c (aH 1) fullShare (dot m c 1) ∗ ownsTc c (brl 1 0) fullShare (rcv m c 1 0))
      ⊢ WP c (k0_part16 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v261 v293 v441 w) (fun r => iprop(⌜r.1 = k0_pay13 (blk (zOf c) (zOf_lt _) (dot m c 1)) (shapeCast S1x1x128x256 (rcv m c 1 0) shapeCasts_S128x256_S1x1x128x256) ∧ r.2 = shapeCast S1x1x128x256 (rcv m c 1 1) shapeCasts_S128x256_S1x1x128x256⌝ ∗ St m c 30 ∗ ownsTc c (aH 1) fullShare (dot m c 1) ∗ ownsTc c (brl 1 0) fullShare (rcv m c 1 0) ∗ ownsTc c (brl 1 1) fullShare (rcv m c 1 1) ∗ ownsTc c (brl 1 2) fullShare (rcv m c 1 2))) := by
  simp only [k0_part16_eq_skeleton]
  unfold k0_part16_skel
  simp only [semSignalWord, semWaitWord, Prog.lift, Prog.bind_op, Prog.bind_ret, Prog.pure_eq_ret, wp_deviceId]
  iintro ⟨HS, Ha1, Hr10⟩
  iapply (wait_in m c 28 (.br 1 1) rfl rfl (by decide) sem_br11 rfl) $$ [HS]
  · iexact HS
  iintro ⟨HS, Hpay⟩
  ihave Hpay := (Entails.of_eq (pay_br m c 1 1)) $$ Hpay
  icases Hpay with Hr11
  iapply (wait_in m c 29 (.br 1 2) rfl rfl (by decide) sem_br12 rfl) $$ [HS]
  · iexact HS
  iintro ⟨HS, Hpay⟩
  ihave Hpay := (Entails.of_eq (pay_br m c 1 2)) $$ Hpay
  icases Hpay with Hr12
  iapply (load_acc c 1 (zOf c) (zOf_lt _) (dot m c 1) (off6_eq c)) $$ Ha1
  iintro Ha1
  iapply (load_br c 1 0 (rcv m c 1 0)) $$ Hr10
  iintro Hr10
  iapply (load_br c 1 1 (rcv m c 1 1)) $$ Hr11
  iintro Hr11
  iapply (wp_done c)
  isplitr; · ipureintro; exact ⟨rfl, rfl⟩
  isplitl [HS]; · iexact HS
  isplitl [Ha1]; · iexact Ha1
  isplitl [Hr10]; · iexact Hr10
  isplitl [Hr11]; · iexact Hr11
  iexact Hr12

theorem part17_wp {v2 v5 v8 v10 v315 : BitVec 32} {v468 : FVec F S128x256 .f32} {v469 : Vec F S1x1x128x256 .bf16} (hv : v468 = k0_pay13 (blk (zOf c) (zOf_lt _) (dot m c 1)) (shapeCast S1x1x128x256 (rcv m c 1 0) shapeCasts_S128x256_S1x1x128x256)) (hw : v469 = shapeCast S1x1x128x256 (rcv m c 1 1) shapeCasts_S128x256_S1x1x128x256) :
    iprop(St m c 30 ∗ ownsTc c (brl 1 2) fullShare (rcv m c 1 2) ∗ ownsAny c (pcl 1) ∗ ownsAny (xyp 0 c) (oW c 1))
      ⊢ WP c (k0_part17 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v10 v315 v468 v469) (fun r => iprop(⌜True⌝ ∗ St m c 31 ∗ ownsTc c (brl 1 2) fullShare (rcv m c 1 2) ∗ ownsTc c (pcl 1) (shr 1) (piece m c 1) ∗ ownsTc c (pcl 1) (shr 2) (piece m c 1) ∗ ownsTc c (pcl 1) fullShare.right.right (piece m c 1) ∗ crd c (.dma (sm (.cs 1 0))))) := by
  simp only [k0_part17_eq_skeleton]
  unfold k0_part17_skel
  simp only [semSignalWord, semWaitWord, Prog.lift, Prog.bind_op, Prog.bind_ret, Prog.pure_eq_ret, wp_deviceId]
  iintro ⟨HS, Hr12, Hp1, Hq10⟩
  subst hv hw
  iapply (load_br c 1 2 (rcv m c 1 2)) $$ Hr12
  iintro Hr12
  iapply (load_pc_any c 1) $$ Hp1
  iintro Hp1
  iapply (store_pc c 1 (piece m c 1) (pay14_eq m c)) $$ Hp1
  iintro Hp1
  ihave Hp1 := (share_pc c 1 (piece m c 1)) $$ Hp1
  icases Hp1 with ⟨Hp10, Hp11, Hp12, Hp13⟩
  iapply (send_c m c 30 1 0 rfl rfl (dev16_eq c) sem_cs10 sem_cr10) $$ [HS Hp10 Hq10]
  · isplitl [HS]; · iexact HS
    isplitl [Hp10]; · iexact Hp10
    iexact Hq10
  iintro ⟨HS, Hcc10⟩
  iapply (wp_done c)
  isplitr; · ipureintro; trivial
  isplitl [HS]; · iexact HS
  isplitl [Hr12]; · iexact Hr12
  isplitl [Hp11]; · iexact Hp11
  isplitl [Hp12]; · iexact Hp12
  isplitl [Hp13]; · iexact Hp13
  iexact Hcc10

theorem part18_wp {v8 v10 v316 v317 v318 v498 : BitVec 32} :
    iprop(St m c 31 ∗ ownsTc c (pcl 1) (shr 1) (piece m c 1) ∗ ownsTc c (pcl 1) (shr 2) (piece m c 1) ∗ ownsAny (xyp 1 c) (oW c 1) ∗ ownsAny (xyp 2 c) (oW c 1))
      ⊢ WP c (k0_part18 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v8 v10 v316 v317 v318 v498) (fun r => iprop(⌜True⌝ ∗ St m c 33 ∗ crd c (.dma (sm (.cs 1 1))) ∗ crd c (.dma (sm (.cs 1 2))))) := by
  simp only [k0_part18_eq_skeleton]
  unfold k0_part18_skel
  simp only [semSignalWord, semWaitWord, Prog.lift, Prog.bind_op, Prog.bind_ret, Prog.pure_eq_ret, wp_deviceId]
  iintro ⟨HS, Hp11, Hp12, Hq11, Hq12⟩
  iapply (send_c m c 31 1 1 rfl rfl (dev17_eq c) sem_cs11 sem_cr11) $$ [HS Hp11 Hq11]
  · isplitl [HS]; · iexact HS
    isplitl [Hp11]; · iexact Hp11
    iexact Hq11
  iintro ⟨HS, Hcc11⟩
  iapply (send_c m c 32 1 2 rfl rfl (dev18_eq c) sem_cs12 sem_cr12) $$ [HS Hp12 Hq12]
  · isplitl [HS]; · iexact HS
    isplitl [Hp12]; · iexact Hp12
    iexact Hq12
  iintro ⟨HS, Hcc12⟩
  iapply (wp_done c)
  isplitr; · ipureintro; trivial
  isplitl [HS]; · iexact HS
  isplitl [Hcc11]; · iexact Hcc11
  iexact Hcc12

end Cert.KProof
-- ==== Proof.Body4.lean ====
/-
# The body, part by part (the last waits)

The peers' pieces arrive and the device's own transfers complete.
-/
module

public import proofs.«01_k».proof.Proof.Rules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

theorem part19_wp {v2 v5 v8 v315 v316 v317 : BitVec 32} :
    iprop(St m c 33 ∗ ownsTc c (pcl 1) fullShare.right.right (piece m c 1) ∗ ownsAny c (oW c 1))
      ⊢ WP c (k0_part19 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v315 v316 v317) (fun r => iprop(⌜True⌝ ∗ St m c 36 ∗ crd c (.dma (sm (.own 1))) ∗ ownsTc c (oW (xyp 0 c) 0) fullShare (piece m (xyp 0 c) 0) ∗ ownsTc c (oW (xyp 1 c) 0) fullShare (piece m (xyp 1 c) 0))) := by
  simp only [k0_part19_eq_skeleton]
  unfold k0_part19_skel
  simp only [semSignalWord, semWaitWord, Prog.lift, Prog.bind_op, Prog.bind_ret, Prog.pure_eq_ret, wp_deviceId]
  iintro ⟨HS, Hp13, How1⟩
  iapply (copy_own m c 33 1 rfl rfl sem_own1) $$ [HS Hp13 How1]
  · isplitl [HS]; · iexact HS
    isplitl [Hp13]; · iexact Hp13
    iexact How1
  iintro ⟨HS, Hco1⟩
  iapply (wait_in m c 34 (.cr 0 0) rfl rfl (by decide) sem_cr00 rfl) $$ [HS]
  · iexact HS
  iintro ⟨HS, Hpay⟩
  ihave Hpay := (Entails.of_eq (pay_cr m c 0 0)) $$ Hpay
  icases Hpay with Ho00
  iapply (wait_in m c 35 (.cr 0 1) rfl rfl (by decide) sem_cr01 rfl) $$ [HS]
  · iexact HS
  iintro ⟨HS, Hpay⟩
  ihave Hpay := (Entails.of_eq (pay_cr m c 0 1)) $$ Hpay
  icases Hpay with Ho10
  iapply (wp_done c)
  isplitr; · ipureintro; trivial
  isplitl [HS]; · iexact HS
  isplitl [Hco1]; · iexact Hco1
  isplitl [Ho00]; · iexact Ho00
  iexact Ho10

theorem part20_wp {v2 v5 v8 v315 v316 v318 v555 w : BitVec 32} :
    iprop(St m c 36)
      ⊢ WP c (k0_part20 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v2 v5 v8 v315 v316 v318 v555 w) (fun r => iprop(⌜True⌝ ∗ St m c 38 ∗ ownsTc c (oW (xyp 2 c) 0) fullShare (piece m (xyp 2 c) 0) ∗ ownsTc c (oW (xyp 0 c) 1) fullShare (piece m (xyp 0 c) 1))) := by
  simp only [k0_part20_eq_skeleton]
  unfold k0_part20_skel
  simp only [semSignalWord, semWaitWord, Prog.lift, Prog.bind_op, Prog.bind_ret, Prog.pure_eq_ret, wp_deviceId]
  iintro HS
  iapply (wait_in m c 36 (.cr 0 2) rfl rfl (by decide) sem_cr02 rfl) $$ [HS]
  · iexact HS
  iintro ⟨HS, Hpay⟩
  ihave Hpay := (Entails.of_eq (pay_cr m c 0 2)) $$ Hpay
  icases Hpay with Ho20
  iapply (wait_in m c 37 (.cr 1 0) rfl rfl (by decide) sem_cr10 rfl) $$ [HS]
  · iexact HS
  iintro ⟨HS, Hpay⟩
  ihave Hpay := (Entails.of_eq (pay_cr m c 1 0)) $$ Hpay
  icases Hpay with Ho01
  iapply (wp_done c)
  isplitr; · ipureintro; trivial
  isplitl [HS]; · iexact HS
  isplitl [Ho20]; · iexact Ho20
  iexact Ho01

theorem part21_wp {v8 v10 v317 v318 : BitVec 32} :
    iprop(St m c 38 ∗ crd c (.dma (sm (.own 0))) ∗ crd c (.dma (sm (.own 1))))
      ⊢ WP c (k0_part21 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c v8 v10 v317 v318) (fun r => iprop(⌜True⌝ ∗ St m c 42 ∗ ownsTc c (oW (xyp 1 c) 1) fullShare (piece m (xyp 1 c) 1) ∗ ownsTc c (oW (xyp 2 c) 1) fullShare (piece m (xyp 2 c) 1) ∗ ownsTc c (oW c 0) fullShare (piece m c 0) ∗ ownsTc c (oW c 1) fullShare (piece m c 1) ∗ ownsTc c (pcl 0) fullShare.right.right (piece m c 0) ∗ ownsTc c (pcl 1) fullShare.right.right (piece m c 1))) := by
  simp only [k0_part21_eq_skeleton]
  unfold k0_part21_skel
  simp only [semSignalWord, semWaitWord, Prog.lift, Prog.bind_op, Prog.bind_ret, Prog.pure_eq_ret, wp_deviceId]
  iintro ⟨HS, Hco0, Hco1⟩
  iapply (wait_in m c 38 (.cr 1 1) rfl rfl (by decide) sem_cr11 rfl) $$ [HS]
  · iexact HS
  iintro ⟨HS, Hpay⟩
  ihave Hpay := (Entails.of_eq (pay_cr m c 1 1)) $$ Hpay
  icases Hpay with Ho11
  iapply (wait_in m c 39 (.cr 1 2) rfl rfl (by decide) sem_cr12 rfl) $$ [HS]
  · iexact HS
  iintro ⟨HS, Hpay⟩
  ihave Hpay := (Entails.of_eq (pay_cr m c 1 2)) $$ Hpay
  icases Hpay with Ho21
  iapply (wait_out m c 40 (.own 0) rfl rfl (by decide) sem_own0 rfl) $$ [HS Hco0]
  · isplitl [HS]; · iexact HS
    iexact Hco0
  iintro ⟨HS, Hpay⟩
  ihave Hpay := (Entails.of_eq (pay_own m c 0)) $$ Hpay
  icases Hpay with ⟨How0, Hp03⟩
  iapply (wait_out m c 41 (.own 1) rfl rfl (by decide) sem_own1 rfl) $$ [HS Hco1]
  · isplitl [HS]; · iexact HS
    iexact Hco1
  iintro ⟨HS, Hpay⟩
  ihave Hpay := (Entails.of_eq (pay_own m c 1)) $$ Hpay
  icases Hpay with ⟨How1, Hp13⟩
  iapply (wp_done c)
  isplitr; · ipureintro; trivial
  isplitl [HS]; · iexact HS
  isplitl [Ho11]; · iexact Ho11
  isplitl [Ho21]; · iexact Ho21
  isplitl [How0]; · iexact How0
  isplitl [How1]; · iexact How1
  isplitl [Hp03]; · iexact Hp03
  iexact Hp13

theorem part22_wp  :
    iprop(St m c 42 ∗ crd c (.dma (sm (.bs 0 0))) ∗ crd c (.dma (sm (.bs 0 1))) ∗ crd c (.dma (sm (.bs 0 2))))
      ⊢ WP c (k0_part22 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 ) (fun r => iprop(⌜True⌝ ∗ St m c 45 ∗ ownsTc c (bsl 0 0) fullShare (snd m c 0 0) ∗ ownsTc c (bsl 0 1) fullShare (snd m c 0 1) ∗ ownsTc c (bsl 0 2) fullShare (snd m c 0 2))) := by
  simp only [k0_part22_eq_skeleton]
  unfold k0_part22_skel
  simp only [semSignalWord, semWaitWord, Prog.lift, Prog.bind_op, Prog.bind_ret, Prog.pure_eq_ret, wp_deviceId]
  iintro ⟨HS, Hcb00, Hcb01, Hcb02⟩
  iapply (wait_out m c 42 (.bs 0 0) rfl rfl (by decide) sem_bs00 rfl) $$ [HS Hcb00]
  · isplitl [HS]; · iexact HS
    iexact Hcb00
  iintro ⟨HS, Hpay⟩
  ihave Hpay := (Entails.of_eq (pay_bs m c 0 0)) $$ Hpay
  icases Hpay with Hb00
  iapply (wait_out m c 43 (.bs 0 1) rfl rfl (by decide) sem_bs01 rfl) $$ [HS Hcb01]
  · isplitl [HS]; · iexact HS
    iexact Hcb01
  iintro ⟨HS, Hpay⟩
  ihave Hpay := (Entails.of_eq (pay_bs m c 0 1)) $$ Hpay
  icases Hpay with Hb01
  iapply (wait_out m c 44 (.bs 0 2) rfl rfl (by decide) sem_bs02 rfl) $$ [HS Hcb02]
  · isplitl [HS]; · iexact HS
    iexact Hcb02
  iintro ⟨HS, Hpay⟩
  ihave Hpay := (Entails.of_eq (pay_bs m c 0 2)) $$ Hpay
  icases Hpay with Hb02
  iapply (wp_done c)
  isplitr; · ipureintro; trivial
  isplitl [HS]; · iexact HS
  isplitl [Hb00]; · iexact Hb00
  isplitl [Hb01]; · iexact Hb01
  iexact Hb02

theorem part23_wp  :
    iprop(St m c 45 ∗ crd c (.dma (sm (.bs 1 0))) ∗ crd c (.dma (sm (.bs 1 1))) ∗ crd c (.dma (sm (.bs 1 2))))
      ⊢ WP c (k0_part23 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 ) (fun r => iprop(⌜True⌝ ∗ St m c 48 ∗ ownsTc c (bsl 1 0) fullShare (snd m c 1 0) ∗ ownsTc c (bsl 1 1) fullShare (snd m c 1 1) ∗ ownsTc c (bsl 1 2) fullShare (snd m c 1 2))) := by
  simp only [k0_part23_eq_skeleton]
  unfold k0_part23_skel
  simp only [semSignalWord, semWaitWord, Prog.lift, Prog.bind_op, Prog.bind_ret, Prog.pure_eq_ret, wp_deviceId]
  iintro ⟨HS, Hcb10, Hcb11, Hcb12⟩
  iapply (wait_out m c 45 (.bs 1 0) rfl rfl (by decide) sem_bs10 rfl) $$ [HS Hcb10]
  · isplitl [HS]; · iexact HS
    iexact Hcb10
  iintro ⟨HS, Hpay⟩
  ihave Hpay := (Entails.of_eq (pay_bs m c 1 0)) $$ Hpay
  icases Hpay with Hb10
  iapply (wait_out m c 46 (.bs 1 1) rfl rfl (by decide) sem_bs11 rfl) $$ [HS Hcb11]
  · isplitl [HS]; · iexact HS
    iexact Hcb11
  iintro ⟨HS, Hpay⟩
  ihave Hpay := (Entails.of_eq (pay_bs m c 1 1)) $$ Hpay
  icases Hpay with Hb11
  iapply (wait_out m c 47 (.bs 1 2) rfl rfl (by decide) sem_bs12 rfl) $$ [HS Hcb12]
  · isplitl [HS]; · iexact HS
    iexact Hcb12
  iintro ⟨HS, Hpay⟩
  ihave Hpay := (Entails.of_eq (pay_bs m c 1 2)) $$ Hpay
  icases Hpay with Hb12
  iapply (wp_done c)
  isplitr; · ipureintro; trivial
  isplitl [HS]; · iexact HS
  isplitl [Hb10]; · iexact Hb10
  isplitl [Hb11]; · iexact Hb11
  iexact Hb12

theorem part24_wp  :
    iprop(St m c 48 ∗ crd c (.dma (sm (.cs 0 0))) ∗ crd c (.dma (sm (.cs 0 1))) ∗ crd c (.dma (sm (.cs 0 2))) ∗ crd c (.dma (sm (.cs 1 0))))
      ⊢ WP c (k0_part24 (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12 c) (fun r => iprop(⌜True⌝ ∗ St m c 52 ∗ ownsTc c (pcl 0) (shr 0) (piece m c 0) ∗ ownsTc c (pcl 0) (shr 1) (piece m c 0) ∗ ownsTc c (pcl 0) (shr 2) (piece m c 0) ∗ ownsTc c (pcl 1) (shr 0) (piece m c 1))) := by
  simp only [k0_part24_eq_skeleton]
  unfold k0_part24_skel
  simp only [semSignalWord, semWaitWord, Prog.lift, Prog.bind_op, Prog.bind_ret, Prog.pure_eq_ret, wp_deviceId]
  iintro ⟨HS, Hcc00, Hcc01, Hcc02, Hcc10⟩
  iapply (wait_out m c 48 (.cs 0 0) rfl rfl (by decide) sem_cs00 rfl) $$ [HS Hcc00]
  · isplitl [HS]; · iexact HS
    iexact Hcc00
  iintro ⟨HS, Hpay⟩
  ihave Hpay := (Entails.of_eq (pay_cs m c 0 0)) $$ Hpay
  icases Hpay with Hp00
  iapply (wait_out m c 49 (.cs 0 1) rfl rfl (by decide) sem_cs01 rfl) $$ [HS Hcc01]
  · isplitl [HS]; · iexact HS
    iexact Hcc01
  iintro ⟨HS, Hpay⟩
  ihave Hpay := (Entails.of_eq (pay_cs m c 0 1)) $$ Hpay
  icases Hpay with Hp01
  iapply (wait_out m c 50 (.cs 0 2) rfl rfl (by decide) sem_cs02 rfl) $$ [HS Hcc02]
  · isplitl [HS]; · iexact HS
    iexact Hcc02
  iintro ⟨HS, Hpay⟩
  ihave Hpay := (Entails.of_eq (pay_cs m c 0 2)) $$ Hpay
  icases Hpay with Hp02
  iapply (wait_out m c 51 (.cs 1 0) rfl rfl (by decide) sem_cs10 rfl) $$ [HS Hcc10]
  · isplitl [HS]; · iexact HS
    iexact Hcc10
  iintro ⟨HS, Hpay⟩
  ihave Hpay := (Entails.of_eq (pay_cs m c 1 0)) $$ Hpay
  icases Hpay with Hp10
  iapply (wp_done c)
  isplitr; · ipureintro; trivial
  isplitl [HS]; · iexact HS
  isplitl [Hp00]; · iexact Hp00
  isplitl [Hp01]; · iexact Hp01
  isplitl [Hp02]; · iexact Hp02
  iexact Hp10

end Cert.KProof
-- ==== Proof.Body.lean ====
/-
# The body, part by part (all of it)

The parts in sequence, then the last two waits. A device enters with its operands, its result buffer and its
scratch buffers cut up the way the transfers use them, and leaves with the result's eight windows written.
-/
module

public import proofs.«01_k».proof.Proof.Body1
public import proofs.«01_k».proof.Proof.Body2
public import proofs.«01_k».proof.Proof.Body3
public import proofs.«01_k».proof.Proof.Body4

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

/-- Device `c`'s scratch buffers, piece by piece, at some contents. -/
def scrAny (c : Dev nD) : sProp 𝕄 :=
  iprop(ownsAny c (aH 0)
    ∗ ownsAny c (aH 1)
    ∗ ownsAny c xvM
    ∗ ownsAny c (yvH 0)
    ∗ ownsAny c (yvH 1)
    ∗ ownsAny c (bsl 0 0)
    ∗ ownsAny c (bsl 0 1)
    ∗ ownsAny c (bsl 0 2)
    ∗ ownsAny c (bsl 1 0)
    ∗ ownsAny c (bsl 1 1)
    ∗ ownsAny c (bsl 1 2)
    ∗ ownsAny c (brl 0 0)
    ∗ ownsAny c (brl 0 1)
    ∗ ownsAny c (brl 0 2)
    ∗ ownsAny c (brl 1 0)
    ∗ ownsAny c (brl 1 1)
    ∗ ownsAny c (brl 1 2)
    ∗ ownsAny c (pcl 0)
    ∗ ownsAny c (pcl 1))
/-- The windows of device `c`'s result: two it writes itself, two from each peer of the plane. -/
def outAny (c : Dev nD) : sProp 𝕄 :=
  iprop(ownsAny c (oW c 0)
    ∗ ownsAny c (oW c 1)
    ∗ ownsAny c (oW (xyp 0 c) 0)
    ∗ ownsAny c (oW (xyp 0 c) 1)
    ∗ ownsAny c (oW (xyp 1 c) 0)
    ∗ ownsAny c (oW (xyp 1 c) 1)
    ∗ ownsAny c (oW (xyp 2 c) 0)
    ∗ ownsAny c (oW (xyp 2 c) 1))
/-- The windows with the writers' pieces in them. -/
def outEq (c : Dev nD) : sProp 𝕄 :=
  iprop(ownsTc c (oW c 0) fullShare (piece m c 0)
    ∗ ownsTc c (oW c 1) fullShare (piece m c 1)
    ∗ ownsTc c (oW (xyp 0 c) 0) fullShare (piece m (xyp 0 c) 0)
    ∗ ownsTc c (oW (xyp 0 c) 1) fullShare (piece m (xyp 0 c) 1)
    ∗ ownsTc c (oW (xyp 1 c) 0) fullShare (piece m (xyp 1 c) 0)
    ∗ ownsTc c (oW (xyp 1 c) 1) fullShare (piece m (xyp 1 c) 1)
    ∗ ownsTc c (oW (xyp 2 c) 0) fullShare (piece m (xyp 2 c) 0)
    ∗ ownsTc c (oW (xyp 2 c) 1) fullShare (piece m (xyp 2 c) 1))
/-- The operands: the second one only through the two windows the device reads, each at one half of the share. -/
def ins (c : Dev nD) : sProp 𝕄 :=
  iprop(ownsTc c xM fullShare (xa m c)
    ∗ ownsTc c (yW c 0) fullShare.left (yc m c 0)
    ∗ ownsTc c (yW c 1) fullShare.right (yc m c 1))

/-- The whole body: from its operands, scratch and protocol state to the result, with the protocol over. -/
theorem body_run :
    iprop(St m c 0 ∗ ins m c ∗ outAny (F := F) c ∗ scrAny (F := F) c)
      ⊢ WP c (cc0_body (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12) (fun _ => iprop(St m c 54 ∗ ins m c ∗ outEq m c ∗ scrAny (F := F) c)) := by
  rw [cc0_body_eq_skeleton]
  unfold cc0_body_skel ins outAny scrAny
  iintro ⟨HS, ⟨Hx, Hy0, Hy1⟩, ⟨How0, How1, Ho00, Ho01, Ho10, Ho11, Ho20, Ho21⟩, Ha, Ha1, Hxv, Hyv0, Hyv1, Hb00, Hb01, Hb02, Hb10, Hb11, Hb12, Hr00, Hr01, Hr02, Hr10, Hr11, Hr12, Hp0, Hp1⟩
  iapply (wp_seq c (part1_wp m c)) $$ [HS Hr02 Hr12]
  · isplitl [HS]; · iexact HS
    isplitl [Hr02]; · iexact Hr02
    iexact Hr12
  iintro %r1 ⟨%h, HS⟩
  obtain ⟨d0, v2, v5, v8, v10, v11, v31, v32, v33⟩ := r1
  obtain ⟨h1, hv⟩ := h; dsimp only at h1 hv; have h1' := h1.symm; subst h1'
  iapply (wp_seq c (part2_wp m c hv)) $$ [HS Hr01 Hr11 Hr00 Hr10]
  · isplitl [HS]; · iexact HS
    isplitl [Hr01]; · iexact Hr01
    isplitl [Hr11]; · iexact Hr11
    isplitl [Hr00]; · iexact Hr00
    iexact Hr10
  iintro %r2 ⟨%h, HS⟩
  obtain ⟨v63, v64, v65, v66, w2⟩ := r2
  iapply (wp_seq c (part3_wp m c)) $$ [HS Ho00 Ho01 Ho10 Ho11 Ho20 Ho21 Hx Hxv Hy0 Hyv0]
  · isplitl [HS]; · iexact HS
    isplitl [Ho00]; · iexact Ho00
    isplitl [Ho01]; · iexact Ho01
    isplitl [Ho10]; · iexact Ho10
    isplitl [Ho11]; · iexact Ho11
    isplitl [Ho20]; · iexact Ho20
    isplitl [Ho21]; · iexact Ho21
    isplitl [Hx]; · iexact Hx
    isplitl [Hxv]; · iexact Hxv
    isplitl [Hy0]; · iexact Hy0
    iexact Hyv0
  iintro %r3 ⟨%h, HS, Hc0, Hc1⟩
  iapply (wp_seq c (part4_wp m c hv)) $$ [HS Hc0 Hc1 Hy1 Hyv1 Ha]
  · isplitl [HS]; · iexact HS
    isplitl [Hc0]; · iexact Hc0
    isplitl [Hc1]; · iexact Hc1
    isplitl [Hy1]; · iexact Hy1
    isplitl [Hyv1]; · iexact Hyv1
    iexact Ha
  iintro %r4 ⟨%h, HS, Hc2, Hx, Hxv_1, Hy0, Hyv0_1, Ha_1, Hd00, Hd10, Hd01, Hd11, Hd02, Hd12⟩
  obtain ⟨v102, v123, v127⟩ := r4
  obtain ⟨h4, h5⟩ := h; dsimp only at h4 h5
  iapply (wp_seq c (part5_wp m c h5)) $$ [HS Hb00 Hd00]
  · isplitl [HS]; · iexact HS
    isplitl [Hb00]; · iexact Hb00
    iexact Hd00
  iintro %r5 ⟨%h, HS, Hcb00⟩
  iapply (wp_seq c (part6_wp m c)) $$ [HS Ha_1 Hb01 Hd01]
  · isplitl [HS]; · iexact HS
    isplitl [Ha_1]; · iexact Ha_1
    isplitl [Hb01]; · iexact Hb01
    iexact Hd01
  iintro %r6 ⟨%h, HS, Ha_1, Hcb01⟩
  iapply (wp_seq c (part7_wp m c h4)) $$ [HS Ha_1 Hb02 Hd02 Hc2]
  · isplitl [HS]; · iexact HS
    isplitl [Ha_1]; · iexact Ha_1
    isplitl [Hb02]; · iexact Hb02
    isplitl [Hd02]; · iexact Hd02
    iexact Hc2
  iintro %r7 ⟨%h7, HS, Ha_1, Hcb02, Hyv1_1, Hy1⟩
  iapply (wp_seq c (part8_wp m c h7)) $$ [HS Ha1 Hb10]
  · isplitl [HS]; · iexact HS
    isplitl [Ha1]; · iexact Ha1
    iexact Hb10
  iintro %r8 ⟨%h, HS, Ha1_1, Hb10_1⟩
  iapply (wp_seq c (part9_wp m c)) $$ [HS Ha1_1 Hb10_1 Hd10 Hb11]
  · isplitl [HS]; · iexact HS
    isplitl [Ha1_1]; · iexact Ha1_1
    isplitl [Hb10_1]; · iexact Hb10_1
    isplitl [Hd10]; · iexact Hd10
    iexact Hb11
  iintro %r9 ⟨%h, HS, Ha1_1, Hcb10, Hb11_1⟩
  iapply (wp_seq c (part10_wp m c)) $$ [HS Ha1_1 Hb11_1 Hd11 Hb12]
  · isplitl [HS]; · iexact HS
    isplitl [Ha1_1]; · iexact Ha1_1
    isplitl [Hb11_1]; · iexact Hb11_1
    isplitl [Hd11]; · iexact Hd11
    iexact Hb12
  iintro %r10 ⟨%h, HS, Ha1_1, Hcb11, Hb12_1⟩
  obtain ⟨v293, v304, w10⟩ := r10
  iapply (wp_seq c (part11_wp m c)) $$ [HS Hb12_1 Hd12]
  · isplitl [HS]; · iexact HS
    isplitl [Hb12_1]; · iexact Hb12_1
    iexact Hd12
  iintro %r11 ⟨%h, HS, Hcb12, Hr00_1⟩
  obtain ⟨v315, v316, v317, v318⟩ := r11
  iapply (wp_seq c (part12_wp m c)) $$ [HS Ha_1 Hr00_1]
  · isplitl [HS]; · iexact HS
    isplitl [Ha_1]; · iexact Ha_1
    iexact Hr00_1
  iintro %r12 ⟨%h, HS, Ha_1, Hr00_1, Hr01_1, Hr02_1⟩
  obtain ⟨v357, v358⟩ := r12
  obtain ⟨h12, h13⟩ := h; dsimp only at h12 h13
  iapply (wp_seq c (part13_wp m c h12 h13)) $$ [HS Hr01_1 Hr02_1 Hp0]
  · isplitl [HS]; · iexact HS
    isplitl [Hr01_1]; · iexact Hr01_1
    isplitl [Hr02_1]; · iexact Hr02_1
    iexact Hp0
  iintro %r13 ⟨%h, HS, Hr01_1, Hr02_1, Hp01, Hp02, Hp03, Hq01, Hq02, Hq10, Hq11, Hq12, Hcc00⟩
  iapply (wp_seq c (part14_wp m c)) $$ [HS Hp01 Hp02 Hq01 Hq02]
  · isplitl [HS]; · iexact HS
    isplitl [Hp01]; · iexact Hp01
    isplitl [Hp02]; · iexact Hp02
    isplitl [Hq01]; · iexact Hq01
    iexact Hq02
  iintro %r14 ⟨%h, HS, Hcc01, Hcc02⟩
  iapply (wp_seq c (part15_wp m c)) $$ [HS Hp03 How0]
  · isplitl [HS]; · iexact HS
    isplitl [Hp03]; · iexact Hp03
    iexact How0
  iintro %r15 ⟨%h, HS, Hco0, Hr10_1⟩
  obtain ⟨v441, w15⟩ := r15
  iapply (wp_seq c (part16_wp m c)) $$ [HS Ha1_1 Hr10_1]
  · isplitl [HS]; · iexact HS
    isplitl [Ha1_1]; · iexact Ha1_1
    iexact Hr10_1
  iintro %r16 ⟨%h, HS, Ha1_1, Hr10_1, Hr11_1, Hr12_1⟩
  obtain ⟨v468, v469⟩ := r16
  obtain ⟨h16, h17⟩ := h; dsimp only at h16 h17
  iapply (wp_seq c (part17_wp m c h16 h17)) $$ [HS Hr12_1 Hp1 Hq10]
  · isplitl [HS]; · iexact HS
    isplitl [Hr12_1]; · iexact Hr12_1
    isplitl [Hp1]; · iexact Hp1
    iexact Hq10
  iintro %r17 ⟨%h, HS, Hr12_1, Hp11, Hp12, Hp13, Hcc10⟩
  iapply (wp_seq c (part18_wp m c)) $$ [HS Hp11 Hp12 Hq11 Hq12]
  · isplitl [HS]; · iexact HS
    isplitl [Hp11]; · iexact Hp11
    isplitl [Hp12]; · iexact Hp12
    isplitl [Hq11]; · iexact Hq11
    iexact Hq12
  iintro %r18 ⟨%h, HS, Hcc11, Hcc12⟩
  iapply (wp_seq c (part19_wp m c)) $$ [HS Hp13 How1]
  · isplitl [HS]; · iexact HS
    isplitl [Hp13]; · iexact Hp13
    iexact How1
  iintro %r19 ⟨%h, HS, Hco1, Ho00_1, Ho10_1⟩
  obtain ⟨v555, w19⟩ := r19
  iapply (wp_seq c (part20_wp m c)) $$ [HS]

  · iexact HS
  iintro %r20 ⟨%h, HS, Ho20_1, Ho01_1⟩
  iapply (wp_seq c (part21_wp m c)) $$ [HS Hco0 Hco1]
  · isplitl [HS]; · iexact HS
    isplitl [Hco0]; · iexact Hco0
    iexact Hco1
  iintro %r21 ⟨%h, HS, Ho11_1, Ho21_1, How0_1, How1_1, Hp03, Hp13⟩
  iapply (wp_seq c (part22_wp m c)) $$ [HS Hcb00 Hcb01 Hcb02]
  · isplitl [HS]; · iexact HS
    isplitl [Hcb00]; · iexact Hcb00
    isplitl [Hcb01]; · iexact Hcb01
    iexact Hcb02
  iintro %r22 ⟨%h, HS, Hb00_1, Hb01_1, Hb02_1⟩
  iapply (wp_seq c (part23_wp m c)) $$ [HS Hcb10 Hcb11 Hcb12]
  · isplitl [HS]; · iexact HS
    isplitl [Hcb10]; · iexact Hcb10
    isplitl [Hcb11]; · iexact Hcb11
    iexact Hcb12
  iintro %r23 ⟨%h, HS, Hb10_1, Hb11_1, Hb12_1⟩
  iapply (wp_seq c (part24_wp m c)) $$ [HS Hcc00 Hcc01 Hcc02 Hcc10]
  · isplitl [HS]; · iexact HS
    isplitl [Hcc00]; · iexact Hcc00
    isplitl [Hcc01]; · iexact Hcc01
    isplitl [Hcc02]; · iexact Hcc02
    iexact Hcc10
  iintro %r24 ⟨%h, HS, Hp00, Hp01, Hp02, Hp10⟩
  simp only [Prog.lift, Prog.bind_op, Prog.bind_ret, Prog.pure_eq_ret]
  iapply (wait_out m c 52 (.cs 1 1) rfl rfl (by decide) sem_cs11 rfl) $$ [HS Hcc11]
  · isplitl [HS]; · iexact HS
    iexact Hcc11
  iintro ⟨HS, Hpay⟩
  ihave Hpay := (Entails.of_eq (pay_cs m c 1 1)) $$ Hpay
  icases Hpay with Hp11
  iapply (wait_out m c 53 (.cs 1 2) rfl rfl (by decide) sem_cs12 rfl) $$ [HS Hcc12]
  · isplitl [HS]; · iexact HS
    iexact Hcc12
  iintro ⟨HS, Hpay⟩
  ihave Hpay := (Entails.of_eq (pay_cs m c 1 2)) $$ Hpay
  icases Hpay with Hp12
  iapply (wp_done c)
  isplitl [HS]; · iexact HS
  isplitl [Hx Hy0 Hy1]
  · skip
    isplitl [Hx]; · iexact Hx
    isplitl [Hy0]; · iexact Hy0
    iexact Hy1
  isplitl [How0_1 How1_1 Ho00_1 Ho01_1 Ho10_1 Ho11_1 Ho20_1 Ho21_1]
  · unfold outEq
    isplitl [How0_1]; · iexact How0_1
    isplitl [How1_1]; · iexact How1_1
    isplitl [Ho00_1]; · iexact Ho00_1
    isplitl [Ho01_1]; · iexact Ho01_1
    isplitl [Ho10_1]; · iexact Ho10_1
    isplitl [Ho11_1]; · iexact Ho11_1
    isplitl [Ho20_1]; · iexact Ho20_1
    iexact Ho21_1
  isplitl [Ha_1]
  · iapply (any_intro c (aH 0) (dot m c 0)); iexact Ha_1
  isplitl [Ha1_1]
  · iapply (any_intro c (aH 1) (dot m c 1)); iexact Ha1_1
  isplitl [Hxv_1]
  · iapply (any_intro c xvM (xa m c)); iexact Hxv_1
  isplitl [Hyv0_1]
  · iapply (any_intro c (yvH 0) (yc m c 0)); iexact Hyv0_1
  isplitl [Hyv1_1]
  · iapply (any_intro c (yvH 1) (yc m c 1)); iexact Hyv1_1
  isplitl [Hb00_1]
  · iapply (any_intro c (bsl 0 0) (snd m c 0 0)); iexact Hb00_1
  isplitl [Hb01_1]
  · iapply (any_intro c (bsl 0 1) (snd m c 0 1)); iexact Hb01_1
  isplitl [Hb02_1]
  · iapply (any_intro c (bsl 0 2) (snd m c 0 2)); iexact Hb02_1
  isplitl [Hb10_1]
  · iapply (any_intro c (bsl 1 0) (snd m c 1 0)); iexact Hb10_1
  isplitl [Hb11_1]
  · iapply (any_intro c (bsl 1 1) (snd m c 1 1)); iexact Hb11_1
  isplitl [Hb12_1]
  · iapply (any_intro c (bsl 1 2) (snd m c 1 2)); iexact Hb12_1
  isplitl [Hr00_1]
  · iapply (any_intro c (brl 0 0) (rcv m c 0 0)); iexact Hr00_1
  isplitl [Hr01_1]
  · iapply (any_intro c (brl 0 1) (rcv m c 0 1)); iexact Hr01_1
  isplitl [Hr02_1]
  · iapply (any_intro c (brl 0 2) (rcv m c 0 2)); iexact Hr02_1
  isplitl [Hr10_1]
  · iapply (any_intro c (brl 1 0) (rcv m c 1 0)); iexact Hr10_1
  isplitl [Hr11_1]
  · iapply (any_intro c (brl 1 1) (rcv m c 1 1)); iexact Hr11_1
  isplitl [Hr12_1]
  · iapply (any_intro c (brl 1 2) (rcv m c 1 2)); iexact Hr12_1
  isplitl [Hp00 Hp01 Hp02 Hp03]
  · iapply (any_intro c (pcl 0) (piece m c 0)); iapply (unshare_pc c 0 (piece m c 0))
    isplitl [Hp00]; · iexact Hp00
    isplitl [Hp01]; · iexact Hp01
    isplitl [Hp02]; · iexact Hp02
    iexact Hp03
  iapply (any_intro c (pcl 1) (piece m c 1)); iapply (unshare_pc c 1 (piece m c 1))
  isplitl [Hp10]; · iexact Hp10
  isplitl [Hp11]; · iexact Hp11
  isplitl [Hp12]; · iexact Hp12
  iexact Hp13

end Cert.KProof
-- ==== Proof.Splits.lean ====
/-
# Cutting the buffers and putting them together

Each whole buffer is the disjoint union of the pieces the transfers use: the scratch buffers' halves and slots, the
result's eight windows. The second operand is only read, through two windows, at one half of the share each.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (c : Dev nD)

/-! ## The scratch buffers -/

theorem dH (t t' : Fin 2) (h : t ≠ t') : Disjoint (rH t).set (rH t').set :=
  Rect.unit_disjoint 1 (by
    have : t.val ≠ t'.val := fun e => h (Fin.ext e)
    show 256 * t.val + 256 ≤ 256 * t'.val ∨ 256 * t'.val + 256 ≤ 256 * t.val
    omega)
theorem cH : (Finset.univ : Finset (Fin 2)).biUnion (fun t => (rH t).set) = Finset.univ := by
  refine Finset.eq_univ_iff_forall.mpr fun i => Finset.mem_biUnion.mpr ?_
  have h0 : (i 0).val < 512 := (i 0).isLt
  have h1 : (i 1).val < 512 := (i 1).isLt
  refine ⟨⟨(i 1).val / 256, by omega⟩, Finset.mem_univ _, Rect.mem_set_unit.mpr fun a => ?_⟩
  match a with
  | ⟨0, _⟩ => exact ⟨Nat.zero_le _, by show (i 0).val < 0 + 512; omega⟩
  | ⟨1, _⟩ => exact ⟨by show 256 * ((i 1).val / 256) ≤ (i 1).val; omega, by show (i 1).val < 256 * ((i 1).val / 256) + 256; omega⟩

theorem dP (t t' : Fin 2) (h : t ≠ t') : Disjoint (rP t).set (rP t').set :=
  Rect.unit_disjoint 0 (by
    have : t.val ≠ t'.val := fun e => h (Fin.ext e)
    show t.val + 1 ≤ t'.val ∨ t'.val + 1 ≤ t.val
    omega)
theorem cP : (Finset.univ : Finset (Fin 2)).biUnion (fun t => (rP t).set) = Finset.univ := by
  refine Finset.eq_univ_iff_forall.mpr fun i => Finset.mem_biUnion.mpr ?_
  have h1 : (i 1).val < 128 := (i 1).isLt
  have h2 : (i 2).val < 256 := (i 2).isLt
  refine ⟨i 0, Finset.mem_univ _, Rect.mem_set_unit.mpr fun a => ?_⟩
  match a with
  | ⟨0, _⟩ => exact ⟨le_refl _, Nat.lt_succ_self _⟩
  | ⟨1, _⟩ => exact ⟨Nat.zero_le _, by show (i 1).val < 0 + 128; omega⟩
  | ⟨2, _⟩ => exact ⟨Nat.zero_le _, by show (i 2).val < 0 + 256; omega⟩

theorem dB (t t' : Fin 2 × Fin 3) (h : t ≠ t') : Disjoint (rB t.1 t.2).set (rB t'.1 t'.2).set := by
  by_cases e : t.1 = t'.1
  · refine Rect.unit_disjoint 1 ?_
    have : t.2.val ≠ t'.2.val := fun e' => h (Prod.ext e (Fin.ext e'))
    show t.2.val + 1 ≤ t'.2.val ∨ t'.2.val + 1 ≤ t.2.val
    omega
  · refine Rect.unit_disjoint 0 ?_
    have : t.1.val ≠ t'.1.val := fun e' => e (Fin.ext e')
    show t.1.val + 1 ≤ t'.1.val ∨ t'.1.val + 1 ≤ t.1.val
    omega
theorem cB : (Finset.univ : Finset (Fin 2 × Fin 3)).biUnion (fun t => (rB t.1 t.2).set) = Finset.univ := by
  refine Finset.eq_univ_iff_forall.mpr fun i => Finset.mem_biUnion.mpr ?_
  have h1 : (i 2).val < 128 := (i 2).isLt
  have h2 : (i 3).val < 256 := (i 3).isLt
  refine ⟨(i 0, i 1), Finset.mem_univ _, Rect.mem_set_unit.mpr fun a => ?_⟩
  match a with
  | ⟨0, _⟩ => exact ⟨le_refl _, Nat.lt_succ_self _⟩
  | ⟨1, _⟩ => exact ⟨le_refl _, Nat.lt_succ_self _⟩
  | ⟨2, _⟩ => exact ⟨Nat.zero_le _, by show (i 2).val < 0 + 128; omega⟩
  | ⟨3, _⟩ => exact ⟨Nat.zero_le _, by show (i 3).val < 0 + 256; omega⟩

omit [FloatOps F] in
theorem sep_two (Φ : Fin 2 → sProp 𝕄) : bigSep Finset.univ Φ = iprop(Φ 0 ∗ Φ 1) :=
  bigSep_univ_eq_bigSepL [0, 1] (by decide) (by decide) Φ
omit [FloatOps F] in
theorem sep_slots (Φ : Fin 2 × Fin 3 → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

/-- A buffer of two column halves; -/
theorem halves_split (M : Memref sig .tc .vmem S512x512 .f32) : (ownsAny c M : sProp 𝕄)
    ⊢ iprop(ownsAny c (M.slice (rH 0) (fun _ => rfl)) ∗ ownsAny c (M.slice (rH 1) (fun _ => rfl))) :=
  (any_rects (F := F) c M rH (fun _ _ => rfl) dH cH).trans (Entails.of_eq (sep_two _))
theorem halves_join (M : Memref sig .tc .vmem S512x512 .f32) :
    iprop(ownsAny c (M.slice (rH 0) (fun _ => rfl)) ∗ ownsAny c (M.slice (rH 1) (fun _ => rfl))) ⊢ (ownsAny c M : sProp 𝕄) :=
  (Entails.of_eq (sep_two fun t => ownsAny c (M.slice (rH t) (fun _ => rfl))).symm).trans (any_of_rects c M rH (fun _ _ => rfl) dH cH)

abbrev sqB (M : Memref sig .tc .vmem S2x3x128x256 .bf16) (s : Fin 2) (o : Fin 3) : Memref sig .tc .vmem S128x256 .bf16 :=
  (M.slice (rB s o) (fun _ => rfl)).squeeze S128x256 squeezes_S1x1x128x256_S128x256
abbrev sqP (s : Fin 2) : Memref sig .tc .vmem S128x256 .bf16 := pcl s

/-- an exchange buffer of six slots; -/
theorem slots_split (M : Memref sig .tc .vmem S2x3x128x256 .bf16) : (ownsAny c M : sProp 𝕄)
    ⊢ iprop(ownsAny c (sqB M 0 0) ∗ ownsAny c (sqB M 0 1) ∗ ownsAny c (sqB M 0 2) ∗ ownsAny c (sqB M 1 0) ∗ ownsAny c (sqB M 1 1) ∗ ownsAny c (sqB M 1 2)) :=
  ((any_rects (F := F) c M (fun t : Fin 2 × Fin 3 => rB t.1 t.2) (fun _ _ => rfl) dB cB).trans
    (bigSep_mono fun t _ => any_squeeze c (M.slice (rB t.1 t.2) (fun _ => rfl)) squeezes_S1x1x128x256_S128x256 shapeCasts_S1x1x128x256_S128x256)).trans
    (Entails.of_eq (sep_slots fun t => ownsAny c (sqB M t.1 t.2)))
theorem slots_join (M : Memref sig .tc .vmem S2x3x128x256 .bf16) :
    iprop(ownsAny c (sqB M 0 0) ∗ ownsAny c (sqB M 0 1) ∗ ownsAny c (sqB M 0 2) ∗ ownsAny c (sqB M 1 0) ∗ ownsAny c (sqB M 1 1) ∗ ownsAny c (sqB M 1 2))
      ⊢ (ownsAny c M : sProp 𝕄) :=
  (Entails.of_eq (sep_slots fun t => ownsAny c (sqB M t.1 t.2)).symm).trans
    ((bigSep_mono fun t _ => any_unsqueeze c (M.slice (rB t.1 t.2) (fun _ => rfl)) squeezes_S1x1x128x256_S128x256 shapeCasts_S128x256_S1x1x128x256).trans
      (any_of_rects c M (fun t : Fin 2 × Fin 3 => rB t.1 t.2) (fun _ _ => rfl) dB cB))

/-- the piece buffer of two slots. -/
theorem pieces_split : (ownsAny c pcM : sProp 𝕄) ⊢ iprop(ownsAny c (pcl 0) ∗ ownsAny c (pcl 1)) :=
  ((any_rects (F := F) c pcM rP (fun _ _ => rfl) dP cP).trans
    (bigSep_mono fun t _ => any_squeeze c (pcM.slice (rP t) (fun _ => rfl)) squeezes_S1x128x256_S128x256 shapeCasts_S1x128x256_S128x256)).trans
    (Entails.of_eq (sep_two fun t => ownsAny c (pcl t)))
theorem pieces_join : iprop(ownsAny c (pcl 0) ∗ ownsAny c (pcl 1)) ⊢ (ownsAny c pcM : sProp 𝕄) :=
  (Entails.of_eq (sep_two fun t => ownsAny c (pcl t)).symm).trans
    ((bigSep_mono fun t _ => any_unsqueeze c (pcM.slice (rP t) (fun _ => rfl)) squeezes_S1x128x256_S128x256 shapeCasts_S128x256_S1x128x256).trans
      (any_of_rects c pcM rP (fun _ _ => rfl) dP cP))

/-- Device `c`'s scratch buffers, whole, at some contents. -/
def scrWhole (c : Dev nD) : sProp 𝕄 :=
  iprop(ownsAny c aM ∗ ownsAny c xvM ∗ ownsAny c yvM ∗ ownsAny c bsM ∗ ownsAny c brM ∗ ownsAny c pcM)

/-- All of the scratch cut into its pieces. -/
theorem scr_split : (scrWhole c : sProp 𝕄) ⊢ scrAny c := by
  unfold scrWhole scrAny
  iintro ⟨Ha, Hx, Hy, Hb, Hr, Hp⟩
  ihave Ha := (halves_split c aM) $$ Ha
  icases Ha with ⟨Ha0, Ha1⟩
  ihave Hy := (halves_split c yvM) $$ Hy
  icases Hy with ⟨Hy0, Hy1⟩
  ihave Hb := (slots_split c bsM) $$ Hb
  icases Hb with ⟨Hb00, Hb01, Hb02, Hb10, Hb11, Hb12⟩
  ihave Hr := (slots_split c brM) $$ Hr
  icases Hr with ⟨Hr00, Hr01, Hr02, Hr10, Hr11, Hr12⟩
  ihave Hp := (pieces_split c) $$ Hp
  icases Hp with ⟨Hp0, Hp1⟩
  isplitl [Ha0]; · iexact Ha0
  isplitl [Ha1]; · iexact Ha1
  isplitl [Hx]; · iexact Hx
  isplitl [Hy0]; · iexact Hy0
  isplitl [Hy1]; · iexact Hy1
  isplitl [Hb00]; · iexact Hb00
  isplitl [Hb01]; · iexact Hb01
  isplitl [Hb02]; · iexact Hb02
  isplitl [Hb10]; · iexact Hb10
  isplitl [Hb11]; · iexact Hb11
  isplitl [Hb12]; · iexact Hb12
  isplitl [Hr00]; · iexact Hr00
  isplitl [Hr01]; · iexact Hr01
  isplitl [Hr02]; · iexact Hr02
  isplitl [Hr10]; · iexact Hr10
  isplitl [Hr11]; · iexact Hr11
  isplitl [Hr12]; · iexact Hr12
  isplitl [Hp0]; · iexact Hp0
  iexact Hp1

/-- The pieces of the scratch put together again. -/
theorem scr_join : scrAny c ⊢ (scrWhole c : sProp 𝕄) := by
  unfold scrWhole scrAny
  iintro ⟨Ha0, Ha1, Hx, Hy0, Hy1, Hb00, Hb01, Hb02, Hb10, Hb11, Hb12, Hr00, Hr01, Hr02, Hr10, Hr11, Hr12, Hp0, Hp1⟩
  isplitl [Ha0 Ha1]
  · iapply (halves_join c aM)
    isplitl [Ha0]; · iexact Ha0
    iexact Ha1
  isplitl [Hx]; · iexact Hx
  isplitl [Hy0 Hy1]
  · iapply (halves_join c yvM)
    isplitl [Hy0]; · iexact Hy0
    iexact Hy1
  isplitl [Hb00 Hb01 Hb02 Hb10 Hb11 Hb12]
  · iapply (slots_join c bsM)
    isplitl [Hb00]; · iexact Hb00
    isplitl [Hb01]; · iexact Hb01
    isplitl [Hb02]; · iexact Hb02
    isplitl [Hb10]; · iexact Hb10
    isplitl [Hb11]; · iexact Hb11
    iexact Hb12
  isplitl [Hr00 Hr01 Hr02 Hr10 Hr11 Hr12]
  · iapply (slots_join c brM)
    isplitl [Hr00]; · iexact Hr00
    isplitl [Hr01]; · iexact Hr01
    isplitl [Hr02]; · iexact Hr02
    isplitl [Hr10]; · iexact Hr10
    isplitl [Hr11]; · iexact Hr11
    iexact Hr12
  iapply (pieces_join c)
  isplitl [Hp0]; · iexact Hp0
  iexact Hp1

/-! ## The result -/

/-- Who writes a window of device `c`'s result: `c` itself or a peer of its plane. -/
def wr (c : Dev nD) : Fin 4 → Dev nD
  | 0 => c
  | 1 => xyp 0 c
  | 2 => xyp 1 c
  | 3 => xyp 2 c
/-- The eight windows of a result do not overlap, -/
theorem wr_sep : ∀ (c : Dev nD) (t t' : Fin 4 × Fin 2), t ≠ t' →
    colO (wr c t.1) t.2 + 256 ≤ colO (wr c t'.1) t'.2 ∨ colO (wr c t'.1) t'.2 + 256 ≤ colO (wr c t.1) t.2 := by decide +kernel
/-- they cover all its columns, -/
theorem wr_cov : ∀ (c : Dev nD) (b : Fin 8), ∃ t : Fin 4 × Fin 2, colO (wr c t.1) t.2 = 256 * b.val := by decide +kernel
/-- and their writers have the same `z`. -/
theorem wr_z : ∀ (c : Dev nD) (t : Fin 4), (wr c t).val % 4 = c.val % 4 := by decide +kernel

theorem mem_rO (w : Dev nD) (s : Fin 2) (i : S128x2048.Idx) : i ∈ (rO w s).set ↔ colO w s ≤ (i 1).val ∧ (i 1).val < colO w s + 256 := by
  have h0 : (i 0).val < 128 := (i 0).isLt
  refine Rect.mem_set_unit.trans ?_
  rw [off5_eq]
  constructor
  · exact fun h => h 1
  · intro h a
    match a with
    | ⟨0, _⟩ => exact ⟨Nat.zero_le _, by show (i 0).val < 0 + 128; omega⟩
    | ⟨1, _⟩ => exact h
theorem dO (t t' : Fin 4 × Fin 2) (h : t ≠ t') : Disjoint (rO (wr c t.1) t.2).set (rO (wr c t'.1) t'.2).set := by
  refine Finset.disjoint_left.mpr fun i hi hi' => ?_
  have h1 := (mem_rO _ _ i).mp hi
  have h2 := (mem_rO _ _ i).mp hi'
  have h3 := wr_sep c t t' h
  omega
theorem cO : (Finset.univ : Finset (Fin 4 × Fin 2)).biUnion (fun t => (rO (wr c t.1) t.2).set) = Finset.univ := by
  refine Finset.eq_univ_iff_forall.mpr fun i => Finset.mem_biUnion.mpr ?_
  have h1 : (i 1).val < 2048 := (i 1).isLt
  obtain ⟨t, ht⟩ := wr_cov c ⟨(i 1).val / 256, by omega⟩
  have ht' : colO (wr c t.1) t.2 = 256 * ((i 1).val / 256) := ht
  exact ⟨t, Finset.mem_univ _, (mem_rO _ _ i).mpr (by rw [ht']; omega)⟩

omit [FloatOps F] in
theorem sep_windows (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

/-- The device whose piece stands in a 512-column block of device `c`'s result. -/
def from_ (c : Dev nD) (q : ℕ) : Dev nD := ⟨(4 * q + c.val % 4) % 16, Nat.mod_lt _ (by decide)⟩
/-- Device `c`'s result. -/
def OUT (c : Dev nD) : S128x2048.Idx → Elt F .bf16 := fun i =>
  piece m (from_ c ((i 1).val / 512)) ⟨(i 1).val / 256 % 2, Nat.mod_lt _ (by decide)⟩
    (ix2 (i 0) (⟨(i 1).val % 256, Nat.mod_lt _ (by decide)⟩ : Fin 256))

/-- The result at an index of a window is the writer's piece. -/
theorem out_at (t : Fin 4 × Fin 2) (j : S128x256.Idx) : OUT m c ((rO (wr c t.1) t.2).emb j) = piece m (wr c t.1) t.2 j := by
  have hj : (j 1).val < 256 := (j 1).isLt
  have e0 : ((rO (wr c t.1) t.2).emb j 0).val = (j 0).val := by
    rw [Rect.emb_apply, Rect.off_unit, Rect.stride_unit, off5_eq]; show 0 + 1 * (j 0).val = _; omega
  have e1 : ((rO (wr c t.1) t.2).emb j 1).val = colO (wr c t.1) t.2 + (j 1).val := by
    rw [Rect.emb_apply, Rect.off_unit, Rect.stride_unit, off5_eq]; show colO _ _ + 1 * (j 1).val = _; omega
  have hs : t.2.val < 2 := t.2.isLt
  have hz := wr_z c t.1
  have hw : (wr c t.1).val < 16 := (wr c t.1).isLt
  unfold OUT
  have h1 : from_ c (((rO (wr c t.1) t.2).emb j 1).val / 512) = wr c t.1 := by
    refine Fin.ext ?_
    show (4 * (((rO (wr c t.1) t.2).emb j 1).val / 512) + c.val % 4) % 16 = (wr c t.1).val
    rw [e1]; unfold colO; omega
  have h2 : (⟨((rO (wr c t.1) t.2).emb j 1).val / 256 % 2, Nat.mod_lt _ (by decide)⟩ : Fin 2) = t.2 := by
    refine Fin.ext ?_
    show ((rO (wr c t.1) t.2).emb j 1).val / 256 % 2 = t.2.val
    rw [e1]; unfold colO; omega
  rw [h1, h2]
  congr 1
  refine Eq.trans ?_ (eq_ix2 j).symm
  congr 1
  · exact Fin.ext e0
  · refine Fin.ext ?_
    show ((rO (wr c t.1) t.2).emb j 1).val % 256 = (j 1).val
    rw [e1]; unfold colO; omega

/-- The result cut into its windows. -/
theorem out_split : (ownsAny c oM : sProp 𝕄) ⊢ outAny c :=
  (any_rects (F := F) c oM (fun t : Fin 4 × Fin 2 => rO (wr c t.1) t.2) (fun _ _ => rfl) (dO c) (cO c)).trans
    (Entails.of_eq (sep_windows fun t => ownsAny c (oW (wr c t.1) t.2)))
/-- The written windows put together again. -/
theorem out_join : outEq m c ⊢ (ownsTc c oM fullShare (OUT m c) : sProp 𝕄) :=
  (Entails.of_eq (sep_windows fun t => ownsTc c (oW (wr c t.1) t.2) fullShare (piece m (wr c t.1) t.2)).symm).trans
    ((Entails.of_eq (bigSep_congr fun t _ => by
        rw [show piece m (wr c t.1) t.2 = fun j => OUT m c ((rO (wr c t.1) t.2).emb j) from funext fun j => (out_at m c t j).symm])).trans
      (owns_of_rects (c : Thread nD τ) oM fullShare (fun t : Fin 4 × Fin 2 => rO (wr c t.1) t.2) (fun _ _ => rfl) (dO c) (cO c) (OUT m c)))

/-! ## The operands -/

/-- What a device keeps of the second operand while its windows are read. -/
def restY (c : Dev nD) : sProp 𝕄 :=
  iprop((∃ f, ⌜yM.view.read (Elt F) f = ya m c⌝ ∗ yM.view.loc (c : Thread nD τ) ↦[yM.view.set \ (yW c 0).view.set]{fullShare.left} f)
    ∗ (∃ f, ⌜yM.view.read (Elt F) f = ya m c⌝ ∗ yM.view.loc (c : Thread nD τ) ↦[yM.view.set \ (yW c 1).view.set]{fullShare.right} f))

/-- The operands as the body uses them, and the columns it does not read. -/
theorem ins_split : iprop(ownsTc c xM fullShare (xa m c) ∗ ownsTc c yM fullShare (ya m c)) ⊢ iprop(ins m c ∗ restY m c) := by
  unfold ins restY
  iintro ⟨Hx, Hy⟩
  ihave Hy := (owns_halves (c : Thread nD τ) yM fullShare (ya m c)).1 $$ Hy
  icases Hy with ⟨HL, HR⟩
  ihave HL := (owns_slice_split (c : Thread nD τ) yM fullShare.left (rY c 0) (fun _ => rfl) (ya m c)) $$ HL
  icases HL with ⟨HL, HLr⟩
  ihave HR := (owns_slice_split (c : Thread nD τ) yM fullShare.right (rY c 1) (fun _ => rfl) (ya m c)) $$ HR
  icases HR with ⟨HR, HRr⟩
  isplitl [Hx HL HR]
  · isplitl [Hx]; · iexact Hx
    isplitl [HL]; · iexact HL
    iexact HR
  isplitl [HLr]; · iexact HLr
  iexact HRr

theorem overlay_self (s : Fin 2) : (rY c s).overlay (ya m c) (yc m c s) = ya m c := by
  funext i
  by_cases hi : i ∈ (rY c s).set
  · obtain ⟨j, rfl⟩ := (rY c s).exists_idx_of_mem hi
    exact Rect.overlay_emb (rY c s) (ya m c) (yc m c s) j
  · exact Rect.overlay_of_not_mem (rY c s) (ya m c) (yc m c s) hi

/-- The operands put together again. -/
theorem ins_join : iprop(ins m c ∗ restY m c) ⊢ iprop(ownsTc c xM fullShare (xa m c) ∗ ownsTc c yM fullShare (ya m c)) := by
  unfold ins restY
  iintro ⟨⟨Hx, HL, HR⟩, ⟨%f, %hf, HLr⟩, %g, %hg, HRr⟩
  isplitl [Hx]; · iexact Hx
  iapply (owns_halves (c : Thread nD τ) yM fullShare (ya m c)).2
  isplitl [HL HLr]
  · ihave H := (owns_slice_join (c : Thread nD τ) yM fullShare.left (rY c 0) (fun _ => rfl) (yc m c 0) f) $$ [HL HLr]
    · isplitl [HL]; · iexact HL
      iexact HLr
    rw [hf, overlay_self]
    iexact H
  · ihave H := (owns_slice_join (c : Thread nD τ) yM fullShare.right (rY c 1) (fun _ => rfl) (yc m c 1) g) $$ [HR HRr]
    · isplitl [HR]; · iexact HR
      iexact HRr
    rw [hg, overlay_self]
    iexact H

end Cert.KProof
-- ==== Proof.Launch.lean ====
/-
# The launch

The ghost state of all devices' cells, minted once and dealt: each device gets the positions of its own cells, the
duty tokens it pays and the credits of what its peers pay it. Then the run: from any memory with zero counters the
program ends with the operands unchanged, the result written and every counter at zero.
-/
module

public import proofs.«01_k».proof.Proof.Splits

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The semaphores -/

/-- The kernel's own semaphores. -/
def osem (k : Fin 30) : SemLoc sig := if h : k.val < 29 then .dma ⟨k.val, h⟩ else .reg xyS
theorem ownSemFacts : Pipeline.OwnSemFacts cfg0.spec osem := by decide

/-- All semaphores: the kernel's own, and the runtime's barrier. -/
abbrev allS : List (SemLoc sig) := (List.finRange 30).map osem ++ [.reg barS]
theorem allS_univ : (Finset.univ : Finset (SemLoc sig)) = allS.toFinset := by decide
theorem allS_nodup : allS.Nodup := by decide

omit [FloatOps F] in
theorem sems_eq (c : Dev nD) :
    (bigSep Finset.univ fun s : SemLoc sig => semVal (cl c s) 0 : sProp 𝕄)
      = iprop(Pipeline.ownSems0 (Ix := Unit) (Name := ℕ) (U := UU) (Lvl := ℕ) (Val := Elt F) (τ := τ) osem c ∗ unscopedSems0 c) := by
  rw [bigSep_univ_eq_bigSepL allS allS_univ allS_nodup, bigSepL_append, bigSepL_map,
    Pipeline.ownSems0_eq_of_list c osem (List.finRange 30) (by decide) (by decide)]
  congr 1
  unfold unscopedSems0; rw [bigSep_eq_bigSepL_of_eq [SemLoc.reg barS] (by decide) (by decide)]

/-! ## What a device starts from and what it leaves -/

abbrev tokL : List ((Dev nD ≃ Dev nD) × Key) := scr0.flatMap keyT
abbrev posL : List (SemLoc sig) := scr0.flatMap keyP
abbrev crdL : List (SemLoc sig) := scr0.flatMap keyC
abbrev owdL : List ((Dev nD ≃ Dev nD) × SemLoc sig) := scr0.flatMap keyO

/-- What device `c` owes at launch. -/
def O₀ (c : Dev nD) : CellTallies nD τ sig Unit := owed c owdL

/-- The protocol's ghost state. -/
def ghost (c : Dev nD) : sProp 𝕄 :=
  iprop((∃ K, records m K) ∗ bigSepL tokL (tok (F := F) c) ∗ bigSepL posL (pos (F := F) c))

def start (c : Dev nD) : sProp 𝕄 :=
  iprop(ghost m c ∗ bigSepL crdL (crd (F := F) c) ∗ levAts L lv
    ∗ (ownsTc c xM fullShare (xa m c) ∗ ownsTc c yM fullShare (ya m c)) ∗ ownsAny (F := F) c oM)
def Φ₀ (c : Dev nD) : sProp 𝕄 := iprop(start m c ∗ scrWhole (F := F) c)
/-- The device's results, and the barrier's counter. -/
def done (c : Dev nD) : sProp 𝕄 :=
  iprop(ownsTc c xM fullShare (xa m c) ∗ ownsTc c yM fullShare (ya m c) ∗ ownsTc c oM fullShare (OUT m c))
def Φ₁ (c : Dev nD) : sProp 𝕄 :=
  iprop(done m c ∗ (bigSep Finset.univ fun s : SemLoc sig => semVal (cl c s) 0) ∗ scrWhole (F := F) c)

def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_none (Φ : Fin cfg0.W → sProp 𝕄) : bigSep Finset.univ Φ = iprop(emp) := rfl

theorem dn_univ : (Finset.univ : Finset (SemLoc sig)) = (dnAt 54).toFinset := by decide
theorem dn_nodup : (dnAt 54).Nodup := by decide

/-- The body from what a device starts with to what it leaves. -/
theorem body_whole (c : Dev nD) :
    iprop(Φ₀ m c ∗ (∃ W, owes (c : Thread nD τ) (O₀ c) W))
      ⊢ WP c (cc0_body (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12)
        (fun _ => iprop(Φ₁ m c ∗ ∃ W, owes (c : Thread nD τ) 0 W)) := by
  unfold Φ₀ start ghost
  iintro ⟨⟨⟨⟨HK, Ht, Hp⟩, Hc, Hlev, Hin, Ho⟩, Hs⟩, HO⟩
  ihave Hin := (ins_split m c) $$ Hin
  icases Hin with ⟨Hin, Hry⟩
  ihave Ho := (out_split (F := F) c) $$ Ho
  ihave Hs := (scr_split (F := F) c) $$ Hs
  iapply (wp_wand_run c (body_run m c)) $$ [HK Ht Hp Hc Hlev Hin Ho Hs HO]
  · isplitl [HK Ht Hp Hc Hlev HO]
    · unfold St Core
      isplitl [HK]; · iexact HK
      isplitl [Hlev]; · iexact Hlev
      isplitl [HO]; · iexact HO
      isplitl [Ht]; · iexact Ht
      isplitl [Hp]; · iexact Hp
      isplitl [Hc]; · iexact Hc
      iempintro
    isplitl [Hin]; · iexact Hin
    isplitl [Ho]; · iexact Ho
    iexact Hs
  iintro %r ⟨HS, Hin, Ho, Hs⟩
  unfold St Core
  icases HS with ⟨-, -, HO, -, -, -, Hz⟩
  ihave Hio := (ins_join m c) $$ [Hin Hry]
  · isplitl [Hin]; · iexact Hin
    iexact Hry
  icases Hio with ⟨Hx, Hy⟩
  ihave Ho := (out_join m c) $$ Ho
  ihave Hs := (scr_join (F := F) c) $$ Hs
  unfold Φ₁ done
  isplitr [HO]
  · isplitl [Hx Hy Ho]
    · isplitl [Hx]; · iexact Hx
      isplitl [Hy]; · iexact Hy
      iexact Ho
    isplitl [Hz]
    · rw [bigSep_univ_eq_bigSepL (dnAt 54) dn_univ dn_nodup]; iexact Hz
    iexact Hs
  iexact HO

/-- The library's body obligation. -/
theorem body_obligation (c : Dev nD) : BodyObligation (dats (F := F) m 0 c) (defs₀ (F := F)) 𝒱₀ () Set.univ := fun t => by
  rw [fin_N0 t]
  rw [bigSep_none, bigSep_none]
  show iprop(Φ₀ m c ∗ (∃ W, ⌜_⌝ ∗ owes (c : Thread nD τ) (O₀ c) W) ∗ emp) ⊢ WP c (cc0_body (F := F) xM (Memref.isWhole_whole _) yM (Memref.isWhole_whole _) oM (Memref.isWhole_whole _) aM (Memref.isWhole_whole _) xvM (Memref.isWhole_whole _) yvM (Memref.isWhole_whole _) bsM (Memref.isWhole_whole _) brM (Memref.isWhole_whole _) pcM (Memref.isWhole_whole _) cc0_scratch6 cc0_scratch7 cc0_scratch8 cc0_scratch9 cc0_scratch10 cc0_scratch11 cc0_scratch12)
    (fun _ => iprop(Φ₁ m c ∗ (∃ W, ⌜_⌝ ∗ owes (c : Thread nD τ) 0 W) ∗ emp))
  iintro ⟨HΦ, ⟨%W, -, HO⟩, -⟩
  iapply (wp_wand_run c (body_whole m c)) $$ [HΦ HO]
  · isplitl [HΦ]; · iexact HΦ
    iexists W; iexact HO
  iintro %r ⟨HΦ, %W', HO⟩
  isplitl [HΦ]; · iexact HΦ
  isplitl [HO]
  · iexists W'
    isplitr; · ipureintro; exact fun _ _ => Or.inl trivial
    iexact HO
  iempintro

/-! ## The ghost state, minted and dealt -/

abbrev kcell (p : Dev nD × SemLoc sig) : GSem nD τ sig := cl p.1 p.2
theorem kcell_inj : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  rw [h1, h2]
abbrev ktok (p : Dev nD × Key) : GSem nD τ sig × ℕ × Fin 3 := (cl p.1 p.2.1, 0, p.2.2)
theorem ktok_inj : Function.Injective (ktok : Dev nD × Key → GSem nD τ sig × ℕ × Fin 3) := by
  rintro ⟨c, s, d⟩ ⟨c', s', d'⟩ h
  have h1 : c = c' := congrArg (fun g : GSem nD τ sig × ℕ × Fin 3 => g.1.1.1) h
  have h2 : s = s' := congrArg (fun g : GSem nD τ sig × ℕ × Fin 3 => g.1.2) h
  have h3 : d = d' := congrArg (fun g : GSem nD τ sig × ℕ × Fin 3 => g.2.2) h
  rw [h1, h2, h3]
def kcells : Finset (GSem nD τ sig) := Finset.univ.map ⟨kcell, kcell_inj⟩
def ktoks : Finset (GSem nD τ sig × ℕ × Fin 3) := Finset.univ.map ⟨ktok, ktok_inj⟩

def u₀ : UU := (initOf (Pipeline.cells cfgs cellOf_inj) (Pipeline.launchToks cfgs cellOf_inj), initOf kcells ktoks)

/-- The tokens of device `c`'s own cells. -/
def ownToks (c : Dev nD) : sProp 𝕄 := bigSep Finset.univ fun k : Key => dutyTok ER (cl c k.1) 0 k.2

def G (c : Dev nD) : sProp 𝕄 :=
  iprop((bigSep Finset.univ fun s : SemLoc sig => roundState ER (Rd m) (cl c s) 0)
    ∗ (bigSep Finset.univ fun s : SemLoc sig => reached ER (cl c s) 0)
    ∗ (bigSep Finset.univ fun s : SemLoc sig => pos (F := F) c s) ∗ ownToks (F := F) c)

/-- The ghost state of all cells, as each device starts with it. -/
theorem fund_all : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun s : SemLoc sig => Φ (cl c s) := by
    unfold kcells; rw [bigSep_map, bigSep_univ_prod]; rfl
  have hT : bigSep ktoks (fun x => (dutyTok ER x.1 x.2.1 x.2.2 : sProp 𝕄)) = bigSep Finset.univ fun c : Dev nD => ownToks c := by
    unfold ktoks ownToks; rw [bigSep_map, bigSep_univ_prod]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- A device's cells made invariants: its counters are zero and its rounds at their start. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (cl c s)))
          ∗ (bigSep Finset.univ fun s : SemLoc sig => reached ER (cl c s) 0)
          ∗ (bigSep Finset.univ fun s : SemLoc sig => pos (F := F) c s) ∗ ownToks (F := F) c) := by
  unfold G
  iintro ⟨Hos, Hus, Hst, Hr, Hat, Htok⟩
  ihave Hv := (Entails.of_eq (sems_eq (F := F) c).symm) $$ [Hos Hus]
  · isplitl [Hos] <;> iassumption
  imod (show iprop((bigSep Finset.univ fun s : SemLoc sig => semVal (cl c s) 0) ∗ bigSep Finset.univ fun s : SemLoc sig => roundState ER (Rd m) (cl c s) 0)
      ⊢ (|={Set.univ}=> bigSep Finset.univ fun s : SemLoc sig => iprop(∃ κ : ℕ, cellInv ER (Rd m) κ (cl c s)) : sProp 𝕄) from by
        rw [← bigSep_sep']
        exact (bigSep_mono fun s _ => (Rounds.body_intro ER (Rd m) (cl c s)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem keys_nodup : (tokL.map Prod.snd).Nodup := by decide
theorem pos_univ : (Finset.univ : Finset (SemLoc sig)) = posL.toFinset := by decide
theorem pos_nodup : posL.Nodup := by decide

omit [FloatOps F] in
/-- A sum over devices of a list of resources, the other way round. -/
theorem bigSepL_swap {I : Type} (l : List I) (Φ : Dev nD → I → sProp 𝕄) :
    (bigSepL l fun i => bigSep Finset.univ fun c => Φ c i) ⊢ bigSep Finset.univ fun c => bigSepL l (Φ c) := by
  induction l with
  | nil =>
    show (iprop(emp) : sProp 𝕄) ⊢ bigSep Finset.univ fun _ : Dev nD => iprop(emp)
    exact BI.bigSep_of_persistent Finset.univ (iprop(emp) : sProp 𝕄)
  | cons i l ih =>
    rw [bigSepL_cons', bigSep_congr (s := Finset.univ) (fun (c : Dev nD) _ => bigSepL_cons' i l (Φ c)), bigSep_sep']
    exact Laws.sep_mono .rfl ih

omit [FloatOps F] in
/-- The tokens dealt: each goes to the device that pays its duty. -/
theorem toks_deal : (bigSep Finset.univ fun c : Dev nD => (ownToks c : sProp 𝕄)) ⊢ bigSep Finset.univ fun c : Dev nD => bigSepL tokL (tok (F := F) c) := by
  have h1 : (bigSep Finset.univ fun c : Dev nD => (ownToks c : sProp 𝕄))
      = bigSep Finset.univ fun k : Key => bigSep Finset.univ fun c : Dev nD => dutyTok ER (cl c k.1) 0 k.2 := by
    unfold ownToks
    rw [← bigSep_univ_prod (fun p : Dev nD × Key => (dutyTok ER (cl p.1 p.2.1) 0 p.2.2 : sProp 𝕄)),
      ← bigSep_univ_prod (fun p : Key × Dev nD => (dutyTok ER (cl p.2 p.1.1) 0 p.1.2 : sProp 𝕄)),
      bigSep_univ_equiv (Equiv.prodComm (Dev nD) Key)]
    rfl
  rw [h1]
  refine ((bigSep_subset (Finset.subset_univ (tokL.map Prod.snd).toFinset)).trans
    (Entails.of_eq (bigSep_eq_bigSepL _ keys_nodup _))).trans ?_
  rw [bigSepL_map]
  refine BIBase.Entails.trans (bigSepL_mono fun k _ => ?_) (bigSepL_swap tokL fun c k => tok (F := F) c k)
  unfold tok
  exact Entails.of_eq (bigSep_univ_equiv k.1 fun c : Dev nD => (dutyTok ER (cl c k.2.1) 0 k.2.2 : sProp 𝕄))

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × SemLoc sig → ℕ) (c : Dev nD) :
    iprop(records m K ∗ (bigSep Finset.univ fun s : SemLoc sig => pos (F := F) c s) ∗ bigSepL tokL (tok (F := F) c)) ⊢ ghost m c := by
  unfold ghost
  iintro ⟨HR, Hp, Ht⟩
  isplitl [HR]; · iexists K; iexact HR
  isplitl [Ht]; · iexact Ht
  rw [← bigSep_univ_eq_bigSepL posL pos_univ pos_nodup]
  iexact Hp

theorem regroup :
    (bigSep Finset.univ fun c : Dev nD => iprop((bigSep Finset.univ fun s : SemLoc sig => iprop(∃ κ : ℕ, cellInv ER (Rd m) κ (cl c s)))
          ∗ (bigSep Finset.univ fun s : SemLoc sig => reached ER (cl c s) 0)
          ∗ (bigSep Finset.univ fun s : SemLoc sig => pos (F := F) c s) ∗ ownToks (F := F) c) : sProp 𝕄)
      ⊢ bigSep Finset.univ (ghost m) := by
  rw [bigSep_sep', bigSep_sep', bigSep_sep', ← bigSep_univ_prod (fun p : Dev nD × SemLoc sig => iprop(∃ κ : ℕ, cellInv ER (Rd m) κ (cl p.1 p.2))),
    ← bigSep_univ_prod (fun p : Dev nD × SemLoc sig => (reached ER (cl p.1 p.2) 0 : sProp 𝕄))]
  iintro ⟨HI, HR, Hp, Ht⟩
  ihave HK := (BI.bigSep_exists_pi Finset.univ (fun (p : Dev nD × SemLoc sig) (κ : ℕ) => (cellInv ER (Rd m) κ (cl p.1 p.2) : sProp 𝕄))) $$ HI
  icases HK with ⟨%K, HI⟩
  ihave Ht := (toks_deal (F := F)) $$ Ht
  iapply (with_persistent (R := records m K) fun c _ => ghost_intro m K c)
  isplitl [HI HR]
  · unfold records; rw [bigSep_sep']
    isplitl [HI]; · iexact HI
    iexact HR
  · rw [bigSep_sep']
    isplitl [Hp]; · iexact Hp
    iexact Ht

/-- The launch state of all devices: cells made, tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

omit [FloatOps F] in
/-- When every device owes `n` to the cell `s` of one peer, each device gets `n` for its cell `s`. -/
theorem cred_one (e : Dev nD ≃ Dev nD) (s : SemLoc sig) (n : ℕ) (c : Dev nD) :
    (Pipeline.launchCred (fun d => tallyAt (cl (e d) s) () n) c : sProp 𝕄) ⊢ cred (tallyAt (cl c s) () n) := by
  refine (Pipeline.launchCred_elim _ c s).trans (Entails.of_eq ?_)
  congr 1
  unfold tallyAt
  refine congrArg _ (Finsupp.ext fun u => ?_)
  rw [Pipeline.launchCredit_owing, Finsupp.single_eq_same, Finset.sum_eq_single (e.symm c)]
  · rw [Equiv.apply_symm_apply]; exact (tallyAt_apply _ _ _ _ _).trans (if_pos ⟨rfl, rfl⟩)
  · intro d _ hd
    refine (tallyAt_apply _ _ _ _ _).trans (if_neg fun h => hd ?_)
    have h1 : c = e d := congrArg (fun g : GSem nD τ sig => g.1.1) h.1
    rw [h1, Equiv.symm_apply_apply]
  · exact fun h => absurd (Finset.mem_univ _) h

omit [FloatOps F] in
theorem cred_list (l : List ((Dev nD ≃ Dev nD) × SemLoc sig)) (c : Dev nD) :
    (Pipeline.launchCred (fun d => owed d l) c : sProp 𝕄) ⊢ bigSepL (l.map Prod.snd) fun s => cred (tallyAt (cl c s) () (amt s)) := by
  induction l with
  | nil =>
    show (Pipeline.launchCred (fun _ => 0) c : sProp 𝕄) ⊢ _
    rw [Pipeline.launchCred_zero]; exact .rfl
  | cons k l ih =>
    show (Pipeline.launchCred (fun d => owed d l + tallyAt (cl (k.1 d) k.2) () (amt k.2)) c : sProp 𝕄) ⊢ _
    rw [Pipeline.launchCred_add, List.map_cons, bigSepL_cons']
    iintro ⟨H1, H2⟩
    ihave H1 := ih $$ H1
    ihave H2 := (cred_one (F := F) k.1 k.2 (amt k.2) c) $$ H2
    isplitl [H2]; · iexact H2
    iexact H1

/-- The DMA semaphores that peers credit. -/
abbrev rcvL : List (SemLoc sig) := (owdL.map Prod.snd).drop 6
theorem owd_eq : owdL.map Prod.snd = SemLoc.reg barS :: .reg barS :: .reg barS :: .reg xyS :: .reg xyS :: .reg xyS :: rcvL := by decide
theorem crd_perm : (SemLoc.reg barS :: SemLoc.reg xyS :: rcvL).Perm crdL := by decide
theorem rcv_nodup : (SemLoc.reg barS :: SemLoc.reg xyS :: rcvL).Nodup := by decide
theorem rcv_reg : ∀ s : Sem sig, SemLoc.reg s ∉ rcvL := by decide

omit [FloatOps F] in
theorem cred_three (c : Dev nD) (s : Sem sig) :
    iprop(cred (tallyAt (cl c (.reg s)) () (amt (.reg s))) ∗ cred (tallyAt (cl c (.reg s)) () (amt (.reg s))) ∗ cred (tallyAt (cl c (.reg s)) () (amt (.reg s))))
      ⊢ (crd c (.reg s) : sProp 𝕄) := by
  unfold crd
  rw [show tot (.reg s : SemLoc sig) = amt (.reg s : SemLoc sig) + (amt (.reg s : SemLoc sig) + amt (.reg s : SemLoc sig)) from rfl, ← tallyAt_add, ← tallyAt_add]
  iintro ⟨H1, H2, H3⟩
  iapply (cred_add _ _).2
  isplitl [H1]; · iexact H1
  iapply (cred_add _ _).2
  isplitl [H2]; · iexact H2
  iexact H3

omit [FloatOps F] in
/-- The credits a device starts with. -/
theorem creds (c : Dev nD) : (Pipeline.launchCred O₀ c : sProp 𝕄) ⊢ bigSepL crdL (crd (F := F) c) := by
  refine (cred_list (F := F) owdL c).trans ?_
  rw [← (bigSep_eq_bigSepL_of_eq crdL (List.toFinset_eq_of_perm _ _ crd_perm) (crd_perm.nodup_iff.mp rcv_nodup) (crd (F := F) c)),
    bigSep_eq_bigSepL _ rcv_nodup, owd_eq]
  simp only [bigSepL_cons']
  iintro ⟨H1, H2, H3, H4, H5, H6, HR⟩
  isplitl [H1 H2 H3]
  · iapply (cred_three (F := F) c barS)
    isplitl [H1]; · iexact H1
    isplitl [H2]; · iexact H2
    iexact H3
  isplitl [H4 H5 H6]
  · iapply (cred_three (F := F) c xyS)
    isplitl [H4]; · iexact H4
    isplitl [H5]; · iexact H5
    iexact H6
  iapply (bigSepL_mono (l := rcvL) (Φ := fun s => cred (tallyAt (cl c s) () (amt s))) (Ψ := crd (F := F) c) fun s hs => by
    rcases s with s | q
    · exact absurd hs (rcv_reg s)
    · exact .rfl)
  iexact HR

/-! ## The run -/

/-- What a device starts the call with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  show iprop(Pipeline.unscopedRest cfg0.spec c (fun b => m ((c : Thread nD τ).loc b)) ∗ levAts L lv
        ∗ Pipeline.launchCred O₀ c ∗ prngReg c (ρ c) ∗ ghost m c) ⊢ _
  rw [unscopedRest0_eq]
  iintro ⟨⟨Hx, Hy, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx Hy]
    · isplitl [Hx]
      · iapply (Entails.of_eq (owns_whole (c : Thread nD τ) main_arg0 fullShare (xa m c)).symm); iexact Hx
      · iapply (Entails.of_eq (owns_whole (c : Thread nD τ) main_arg1 fullShare (ya m c)).symm); iexact Hy
    iexists (m ((c : Thread nD τ).loc main_v1))
    iapply (Entails.of_eq (owns_whole (c : Thread nD τ) main_v1 fullShare (m ((c : Thread nD τ).loc main_v1))).symm); iexact Ho
  · iempintro

theorem any_whole (c : Dev nD) (b : Ref sig .tc) :
    (iprop(∃ f : Buf (Elt F) ((c : Thread nD τ).loc b), ((c : Thread nD τ).loc b) ↦{fullShare} f) : sProp 𝕄) = ownsAny c (Memref.whole b) := by
  unfold ownsAny ownsTc
  congr 1; funext f
  exact (owns_whole (c : Thread nD τ) b fullShare f).symm

theorem scr_eq (c : Dev nD) : (Pipeline.scopedRest cfg0.spec c : sProp 𝕄) = scrWhole (F := F) c := by
  rw [scopedRest0_eq]
  unfold scrWhole
  simp only [any_whole]
  rfl

/-- The state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

/-- The state after the body. -/
theorem phi1_exit (c : Dev nD) :
    (dats m 0 c).Φ (Fin.last cfg0.N) ⊢ iprop((done m c ∗ unscopedSems0 c) ∗ Pipeline.ownSems0 osem c ∗ Pipeline.scopedRest cfg0.spec c) := by
  rw [show (dats m 0 c).Φ (Fin.last cfg0.N) = Φ₁ m c from rfl, scr_eq]
  unfold Φ₁
  rw [sems_eq]
  iintro ⟨Hd, ⟨Ho, Hu⟩, Hs⟩
  isplitl [Hd Hu]
  · isplitl [Hd]; · iexact Hd
    iexact Hu
  isplitl [Ho]; · iexact Ho
  iexact Hs

/-- No wait of the library's own remains. -/
theorem waits (c : Dev nD) : (levAts L lv : sProp 𝕄) ⊢ Pipeline.cellsWaits cfgs (dats m) () 0 c :=
  Pipeline.cellsWaits_intro cfgs (dats m) () 0 c fun w s t => Fin.elim0 w

/-- What a device's memory holds at the end. -/
def QD (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = OUT m c

omit [FloatOps F] in
/-- A buffer's contents read off the final state. -/
theorem read_one (c : Dev nD) (b : Ref sig .tc) (X : Buf (Elt F) ((c : Thread nD τ).loc b)) (s' : Phys nD τ sig (Elt F)) :
    iprop((((c : Thread nD τ).loc b) ↦{fullShare} X) ∗ SI s') ⊢ (iprop(⌜s'.mem.mem ((c : Thread nD τ).loc b) = X⌝ ∗ SI s') : sProp 𝕄) := by
  iintro ⟨H, HSI⟩
  ihave H := (pointsTo_read_all (Finset.univ : Finset Unit) (fun _ => (c : Thread nD τ).loc b) (fun _ => X) s') $$ [H HSI]
  · isplitl [H]
    · rw [bigSep_univ_eq_bigSepL [()] (by decide) (by decide), bigSepL_singleton]; iexact H
    iexact HSI
  icases H with ⟨%h, HSI⟩
  isplitr; · ipureintro; exact h () (Finset.mem_univ _)
  iexact HSI

/-- The final state read off what a device leaves. -/
theorem read_done (c : Dev nD) (s' : Phys nD τ sig (Elt F)) :
    iprop((done m c ∗ unscopedSems0 c) ∗ emp ∗ SI s')
      ⊢ |={Set.univ}=> iprop(⌜QD m c s'.mem ∧ ∀ sm : SemLoc sig, sm.isScoped .tc = false → s'.mem.sem ((c.tc : Thread nD τ), sm) = 0⌝ ∗ SI s') := by
  unfold done
  iintro ⟨⟨⟨Hx, Hy, Ho⟩, Hu⟩, -, HSI⟩
  ihave Hx := (Entails.of_eq (owns_whole (c : Thread nD τ) main_arg0 fullShare (xa m c))) $$ Hx
  ihave Hy := (Entails.of_eq (owns_whole (c : Thread nD τ) main_arg1 fullShare (ya m c))) $$ Hy
  ihave Ho := (Entails.of_eq (owns_whole (c : Thread nD τ) main_v1 fullShare (OUT m c))) $$ Ho
  ihave H := (read_one (F := F) c main_arg0 (xa m c) s') $$ [Hx HSI]
  · isplitl [Hx] <;> iassumption
  icases H with ⟨%h0, HSI⟩
  ihave H := (read_one (F := F) c main_arg1 (ya m c) s') $$ [Hy HSI]
  · isplitl [Hy] <;> iassumption
  icases H with ⟨%h1, HSI⟩
  ihave H := (read_one (F := F) c main_v1 (OUT m c) s') $$ [Ho HSI]
  · isplitl [Ho] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨⟨h0, h1, h2⟩, h3⟩
  iexact HSI

set_option maxRecDepth 8000 in
/-- From any memory with zero counters, for any float values: every weakly fair execution ends, with the operands
    unchanged, every device's result `OUT` and every counter at zero. -/
theorem run_main : θ_run defs (onTc (τ := τ) (main (F := F))) (⟨m, fun _ => 0, ρ⟩ : MemSt nD τ sig (Elt F))
    (fun r => (∀ c : Dev nD, QD m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun c w => Fin.elim0 w)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(done m c ∗ unscopedSems0 c)) (Z := fun _ => iprop(emp))
    (hX := start_intro m ρ) (hin := phi0_intro m) (hout := phi1_exit m)
    (QY := fun c s => QD m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.KProof
-- ==== Proof.Value.lean ====
/-
# The value

At the ideal values the casts are the identity and sums are exact, so what a device writes is a block of the
reference's product: the four partial products of a `z` line are the four quarters of the contraction's sum.
-/
module

public import proofs.«01_k».proof.Proof.Launch
public import proofs.«01_k».proof.Proof.Gen.ReferenceIdeal
public import Idealize.ShloMosaic.PureOps.Ideal
public import Idealize.ShloMosaic.PureOps.Ideal.Laws
public import Idealize.ShloMosaic.Lib.ValueIdx
public import Idealize.ShloMosaic.Lib.Layout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (contrEquiv1 contrEquiv1_symm_val)

variable (m : (ℓ : Loc nD τ sig) → Buf (Elt Ideal) ℓ)
variable (X : Cert.ReferenceIdeal.S2048x512.Idx → EReal) (Y : Cert.ReferenceIdeal.S2048x2048.Idx → EReal)

/-- Quarter `z` of the contraction at row `a`, column `b`. -/
def part (z : Fin 4) (a : Fin 512) (b : Fin 2048) : EReal :=
  ∑ k : Fin 512, X (ix2 (⟨512 * z.val + k.val, by omega⟩ : Fin 2048) a) * Y (ix2 (⟨512 * z.val + k.val, by omega⟩ : Fin 2048) b)

/-- The four quarters make the whole sum. -/
theorem sum_parts (a : Fin 512) (b : Fin 2048) :
    (∑ k : Fin 2048, X (ix2 k a) * Y (ix2 k b)) = ∑ z : Fin 4, part X Y z a b := by
  unfold part
  rw [← Equiv.sum_comp (finProdFinEquiv : Fin 4 × Fin 512 ≃ Fin (4 * 512)) (fun k : Fin 2048 => X (ix2 k a) * Y (ix2 k b)),
    Fintype.sum_prod_type]
  refine Finset.sum_congr rfl fun z _ => Finset.sum_congr rfl fun k _ => ?_
  have h : (finProdFinEquiv (z, k) : Fin 2048) = ⟨512 * z.val + k.val, by omega⟩ :=
    Fin.ext (by show k.val + 512 * z.val = 512 * z.val + k.val; omega)
  rw [h]

/-! ## A partial product -/

/-- The kernel's product at an index: a 512-long sum. -/
theorem pay2_apply (A : S512x512.Idx → EReal) (B : S512x256.Idx → EReal) (a : Fin 512) (b : Fin 256) :
    (k0_pay2 (F := Ideal) A B : S512x256.Idx → EReal) (ix2 a b) = ∑ k : Fin 512, A (ix2 k a) * B (ix2 k b) := by
  show shapeCast S512x256 (matmul (F := Ideal) (φ₁ := .bf16) (φ₂ := .bf16) dot_S512x512_S512x256_S512x256_0_0_1_1_n_n none A B
    (constant S512x256 .f32 0x00000000#32)) shapeCasts_S512x256_S512x256 (ix2 a b) = _
  rw [shapeCast_self]
  show FloatOps.matmul (F := Ideal) (φ₁ := .bf16) (φ₂ := .bf16) dot_S512x512_S512x256_S512x256_0_0_1_1_n_n none A B
    (constant S512x256 .f32 0x00000000#32) (ix2 a b) = _
  rw [Ideal.matmul_constant_zero_apply,
    ← Equiv.sum_comp (contrEquiv1 dot_S512x512_S512x256_S512x256_0_0_1_1_n_n 512 rfl rfl).symm]
  refine Finset.sum_congr rfl fun k _ => ?_
  have c2 := contrEquiv1_symm_val dot_S512x512_S512x256_S512x256_0_0_1_1_n_n 512 rfl rfl k
  have l2 : dot_S512x512_S512x256_S512x256_0_0_1_1_n_n.lhsIdx (ix2 a b) ((contrEquiv1 _ 512 rfl rfl).symm k) = ix2 k a := by
    funext ax; apply Fin.ext
    match ax with
    | ⟨0, _⟩ => simp [DotDims.lhsIdx, dot_S512x512_S512x256_S512x256_0_0_1_1_n_n]; exact c2
    | ⟨1, _⟩ => simp [DotDims.lhsIdx, dot_S512x512_S512x256_S512x256_0_0_1_1_n_n]; rfl
  have r2 : dot_S512x512_S512x256_S512x256_0_0_1_1_n_n.rhsIdx (ix2 a b) ((contrEquiv1 _ 512 rfl rfl).symm k) = ix2 k b := by
    funext ax; apply Fin.ext
    match ax with
    | ⟨0, _⟩ => simp [DotDims.rhsIdx, dot_S512x512_S512x256_S512x256_0_0_1_1_n_n]; exact c2
    | ⟨1, _⟩ => simp [DotDims.rhsIdx, dot_S512x512_S512x256_S512x256_0_0_1_1_n_n]; rfl
  rw [l2, r2]

/-- The operands are placed: device `c` holds the quarter of rows its `z` names. -/
def Placed : Prop := ∀ c : Dev nD,
  (∀ (k a : Fin 512), (xa m c : S512x512.Idx → EReal) (ix2 k a) = X (ix2 (⟨512 * (c.val % 4) + k.val, by omega⟩ : Fin 2048) a))
  ∧ ∀ (k : Fin 512) (b : Fin 2048), (ya m c : S512x2048.Idx → EReal) (ix2 k b) = Y (ix2 (⟨512 * (c.val % 4) + k.val, by omega⟩ : Fin 2048) b)

theorem colO_lt (c : Dev nD) (s : Fin 2) (b : Fin 256) : colO c s + b.val < 2048 := by
  have : c.val < 16 := c.isLt
  unfold colO; omega

variable {m X Y}

/-- A half's product at an index is the device's quarter of the sum. -/
theorem dot_apply (h : Placed m X Y) (c : Dev nD) (s : Fin 2) (a : Fin 512) (b : Fin 256) :
    (dot m c s : S512x256.Idx → EReal) (ix2 a b) = part X Y ⟨c.val % 4, Nat.mod_lt _ (by decide)⟩ a ⟨colO c s + b.val, colO_lt c s b⟩ := by
  unfold dot part
  rw [pay2_apply]
  refine Finset.sum_congr rfl fun k _ => ?_
  have hy : (yc m c s : S512x256.Idx → EReal) (ix2 k b) = (ya m c : S512x2048.Idx → EReal) (ix2 k (⟨colO c s + b.val, colO_lt c s b⟩ : Fin 2048)) := by
    unfold yc
    congr 1
    refine (eq_ix2 _).trans ?_
    congr 1
    · refine Fin.ext ?_
      rw [Rect.emb_apply, Rect.off_unit, Rect.stride_unit, off1_eq]; show 0 + 1 * k.val = k.val; omega
    · refine Fin.ext ?_
      rw [Rect.emb_apply, Rect.off_unit, Rect.stride_unit, off1_eq]; show colO c s + 1 * b.val = colO c s + b.val; omega
  rw [hy, (h c).1, (h c).2]

theorem part_congr {z z' : Fin 4} {a a' : Fin 512} {b b' : Fin 2048} (hz : z.val = z'.val) (ha : a.val = a'.val) (hb : b.val = b'.val) :
    part X Y z a b = part X Y z' a' b' := by rw [Fin.ext hz, Fin.ext ha, Fin.ext hb]

/-- What a device receives in slot `o` is the quarter of the device that sent it. -/
theorem rcv_apply (h : Placed m X Y) (c : Dev nD) (s : Fin 2) (o : Fin 3) (a : Fin 128) (b : Fin 256) :
    (rcv m c s o : S128x256.Idx → EReal) (ix2 a b)
      = part X Y ⟨(c.val + 3 - o.val) % 4, Nat.mod_lt _ (by decide)⟩ ⟨128 * (c.val % 4) + a.val, by omega⟩ ⟨colO c s + b.val, colO_lt c s b⟩ := by
  have hc : c.val < 16 := c.isLt
  have ho : o.val < 3 := o.isLt
  show (blk (zOf (zp o (zp (2 - o) c))) (zOf_lt _) (dot m (zp (2 - o) c) s) : S128x256.Idx → EReal) (ix2 a b) = _
  have hv : (zp (2 - o) c).val = (4 * (c.val / 4) + (c.val % 4 + (2 - o.val) + 1) % 4) % 16 := by
    show (4 * (c.val / 4) + (c.val % 4 + (2 - o).val + 1) % 4) % 16 = _
    rw [show (2 - o : Fin 3).val = 2 - o.val from by revert o; decide]
  have hz : zp o (zp (2 - o) c) = c := zpF_inv' o c
  unfold blk
  refine (dot_apply h (zp (2 - o) c) s ⟨128 * zOf (zp o (zp (2 - o) c)) + a.val, by have := zOf_lt (zp o (zp (2 - o) c)); omega⟩ b).trans ?_
  refine part_congr ?_ ?_ ?_
  · show (zp (2 - o) c).val % 4 = (c.val + 3 - o.val) % 4
    rw [hv]; omega
  · show 128 * zOf (zp o (zp (2 - o) c)) + a.val = _
    rw [hz]
  · show colO (zp (2 - o) c) s + b.val = colO c s + b.val
    unfold colO; rw [hv]; omega

/-- A piece is the whole sum at its rows and columns. -/
theorem piece_apply (h : Placed m X Y) (c : Dev nD) (s : Fin 2) (a : Fin 128) (b : Fin 256) :
    (piece m c s : S128x256.Idx → EReal) (ix2 a b)
      = ∑ k : Fin 2048, X (ix2 k (⟨128 * (c.val % 4) + a.val, by omega⟩ : Fin 512)) * Y (ix2 k (⟨colO c s + b.val, colO_lt c s b⟩ : Fin 2048)) := by
  rw [sum_parts]
  have hb : (blk (zOf c) (zOf_lt c) (dot m c s) : S128x256.Idx → EReal) (ix2 a b)
      = part X Y ⟨c.val % 4, Nat.mod_lt _ (by decide)⟩ ⟨128 * (c.val % 4) + a.val, by omega⟩ ⟨colO c s + b.val, colO_lt c s b⟩ := by
    unfold blk
    exact dot_apply h c s _ b
  show (blk (zOf c) (zOf_lt c) (dot m c s) : S128x256.Idx → EReal) (ix2 a b)
      + (rcv m c s 0 : S128x256.Idx → EReal) (ix2 a b) + (rcv m c s 1 : S128x256.Idx → EReal) (ix2 a b)
      + (rcv m c s 2 : S128x256.Idx → EReal) (ix2 a b) = _
  rw [hb, rcv_apply h, rcv_apply h, rcv_apply h]
  generalize (⟨128 * (c.val % 4) + a.val, _⟩ : Fin 512) = a'
  generalize (⟨colO c s + b.val, _⟩ : Fin 2048) = b'
  rw [Fin.sum_univ_four]
  have four (f : Fin 4 → EReal) (n : ℕ) : f ⟨n % 4, Nat.mod_lt _ (by decide)⟩ + f ⟨(n + 3 - (0 : Fin 3).val) % 4, Nat.mod_lt _ (by decide)⟩
      + f ⟨(n + 3 - (1 : Fin 3).val) % 4, Nat.mod_lt _ (by decide)⟩ + f ⟨(n + 3 - (2 : Fin 3).val) % 4, Nat.mod_lt _ (by decide)⟩
      = f 0 + f 1 + f 2 + f 3 := by
    have h0 : (0 : Fin 3).val = 0 := rfl
    have h1 : (1 : Fin 3).val = 1 := rfl
    have h2 : (2 : Fin 3).val = 2 := rfl
    have hn : n % 4 = 0 ∨ n % 4 = 1 ∨ n % 4 = 2 ∨ n % 4 = 3 := by omega
    have fe (p q : ℕ) (hp : p < 4) (hq : q < 4) (e : p = q) : f ⟨p, hp⟩ = f ⟨q, hq⟩ := by subst e; rfl
    rcases hn with hn | hn | hn | hn
    · rw [fe _ 0 _ (by decide) (by omega), fe ((n + 3 - (0 : Fin 3).val) % 4) 3 _ (by decide) (by omega),
        fe ((n + 3 - (1 : Fin 3).val) % 4) 2 _ (by decide) (by omega), fe ((n + 3 - (2 : Fin 3).val) % 4) 1 _ (by decide) (by omega)]
      show f 0 + f 3 + f 2 + f 1 = _; abel
    · rw [fe _ 1 _ (by decide) (by omega), fe ((n + 3 - (0 : Fin 3).val) % 4) 0 _ (by decide) (by omega),
        fe ((n + 3 - (1 : Fin 3).val) % 4) 3 _ (by decide) (by omega), fe ((n + 3 - (2 : Fin 3).val) % 4) 2 _ (by decide) (by omega)]
      show f 1 + f 0 + f 3 + f 2 = _; abel
    · rw [fe _ 2 _ (by decide) (by omega), fe ((n + 3 - (0 : Fin 3).val) % 4) 1 _ (by decide) (by omega),
        fe ((n + 3 - (1 : Fin 3).val) % 4) 0 _ (by decide) (by omega), fe ((n + 3 - (2 : Fin 3).val) % 4) 3 _ (by decide) (by omega)]
      show f 2 + f 1 + f 0 + f 3 = _; abel
    · rw [fe _ 3 _ (by decide) (by omega), fe ((n + 3 - (0 : Fin 3).val) % 4) 2 _ (by decide) (by omega),
        fe ((n + 3 - (1 : Fin 3).val) % 4) 1 _ (by decide) (by omega), fe ((n + 3 - (2 : Fin 3).val) % 4) 0 _ (by decide) (by omega)]
      show f 3 + f 2 + f 1 + f 0 = _; abel
  exact four (fun z => part X Y z a' b') c.val

/-- A device's result, at an index, is the whole sum at the row its `z` names. -/
theorem OUT_apply (h : Placed m X Y) (c : Dev nD) (a : Fin 128) (b : Fin 2048) :
    (OUT m c : S128x2048.Idx → EReal) (ix2 a b)
      = ∑ k : Fin 2048, X (ix2 k (⟨128 * (c.val % 4) + a.val, by omega⟩ : Fin 512)) * Y (ix2 k b) := by
  have hc : c.val < 16 := c.isLt
  have hb : b.val < 2048 := b.isLt
  show (piece m (from_ c (b.val / 512)) ⟨b.val / 256 % 2, Nat.mod_lt _ (by decide)⟩ : S128x256.Idx → EReal)
    (ix2 a (⟨b.val % 256, Nat.mod_lt _ (by decide)⟩ : Fin 256)) = _
  rw [piece_apply h]
  have hf : (from_ c (b.val / 512)).val = (4 * (b.val / 512) + c.val % 4) % 16 := rfl
  refine Finset.sum_congr rfl fun k _ => ?_
  congr 1
  · congr 2
    refine Fin.ext ?_
    show 128 * ((from_ c (b.val / 512)).val % 4) + a.val = 128 * (c.val % 4) + a.val
    rw [hf]; omega
  · congr 2
    refine Fin.ext ?_
    show colO (from_ c (b.val / 512)) ⟨b.val / 256 % 2, _⟩ + b.val % 256 = b.val
    unfold colO; rw [hf]
    show 512 * ((4 * (b.val / 512) + c.val % 4) % 16 / 4) + 256 * (b.val / 256 % 2) + b.val % 256 = b.val
    omega

/-! ## The reference -/

section Reference
open Cert.ReferenceIdeal

/-- The reference's result of its two operands. -/
def refOut (X : FVec Ideal Cert.ReferenceIdeal.S2048x512 .f32) (Y : FVec Ideal Cert.ReferenceIdeal.S2048x2048 .f32) :
    FVec Ideal Cert.ReferenceIdeal.S512x2048 .bf16 :=
  truncf .bf16 (Host.dotGeneral Cert.ReferenceIdeal.dot_S512x2048_S2048x2048_S512x2048_1_0_0_1_n_n none
    (transpose Cert.ReferenceIdeal.S512x2048 [1, 0] X Cert.ReferenceIdeal.Gen.transposes_S2048x512_S512x2048_1_0) Y)
    Cert.ReferenceIdeal.Gen.bitsLt_bf16_f32

/-- The reference's result at an index: the whole sum. -/
theorem refOut_apply (a : Fin 512) (b : Fin 2048) :
    (refOut X Y : Cert.ReferenceIdeal.S512x2048.Idx → EReal) (ix2 a b) = ∑ k : Fin 2048, X (ix2 k a) * Y (ix2 k b) := by
  show Host.dotGeneral (F := Ideal) (φ₁ := .f32) (φ₂ := .f32) (DotDims.plain 512 2048 2048) none
    (transpose Cert.ReferenceIdeal.S512x2048 [1, 0] X Cert.ReferenceIdeal.Gen.transposes_S2048x512_S512x2048_1_0) Y (ix2 a b) = _
  show FloatOps.dotGeneral (F := Ideal) (φ₁ := .f32) (φ₂ := .f32) (DotDims.plain 512 2048 2048) none _
    (transpose Cert.ReferenceIdeal.S512x2048 [1, 0] X Cert.ReferenceIdeal.Gen.transposes_S2048x512_S512x2048_1_0) Y (ix2 a b) = _
  rw [Ideal.dotGeneral_apply, ← Equiv.sum_comp (contrEquiv1 (DotDims.plain 512 2048 2048) 2048 rfl rfl).symm]
  refine Finset.sum_congr rfl fun k _ => ?_
  have c2 := contrEquiv1_symm_val (DotDims.plain 512 2048 2048) 2048 rfl rfl k
  have l2 : (DotDims.plain 512 2048 2048).lhsIdx (ix2 a b) ((contrEquiv1 _ 2048 rfl rfl).symm k) = ix2 a k := by
    funext ax; apply Fin.ext
    match ax with
    | ⟨0, _⟩ => simp [DotDims.lhsIdx, DotDims.plain]; rfl
    | ⟨1, _⟩ => simp [DotDims.lhsIdx, DotDims.plain]; exact c2
  have r2 : (DotDims.plain 512 2048 2048).rhsIdx (ix2 a b) ((contrEquiv1 _ 2048 rfl rfl).symm k) = ix2 k b := by
    funext ax; apply Fin.ext
    match ax with
    | ⟨0, _⟩ => simp [DotDims.rhsIdx, DotDims.plain]; exact c2
    | ⟨1, _⟩ => simp [DotDims.rhsIdx, DotDims.plain]; rfl
  rw [l2, r2, transpose_apply _ _ _ (ix2 a k) (ix2 k a)]
  intro ax
  match ax with
  | ⟨0, _⟩ => rfl
  | ⟨1, _⟩ => rfl

end Reference

/-! ## The comparison -/

theorem meshBlock_z (c : Fin 16) : ((Layout.meshBlock [2, 2, 4] ![[2], []] c) 0).val = c.val % 4 := by revert c; decide
theorem meshBlock_col (c : Fin 16) : ((Layout.meshBlock [2, 2, 4] ![[2], []] c) 1).val = 0 := by revert c; decide

/-- Operands placed by the claim's blocks are placed as above. -/
theorem placed (hx : ∀ c : Dev nD, xa m c = Layout.blockN ⟨2, ![512, 512]⟩ ⟨2, ![2048, 512]⟩ (Layout.meshBlock [2, 2, 4] ![[2], []] c) X)
    (hy : ∀ c : Dev nD, ya m c = Layout.blockN ⟨2, ![512, 2048]⟩ ⟨2, ![2048, 2048]⟩ (Layout.meshBlock [2, 2, 4] ![[2], []] c) Y) :
    Placed m X Y := by
  intro c
  refine ⟨fun k a => ?_, fun k b => ?_⟩
  · rw [hx c, Layout.blockN_apply]
    congr 1
    refine (eq_ix2 _).trans ?_
    congr 1
    · refine Fin.ext ?_
      rw [Layout.TilesN.idx_val]
      show ((Layout.meshBlock [2, 2, 4] ![[2], []] c) 0).val * 512 + k.val = 512 * (c.val % 4) + k.val
      rw [meshBlock_z]; omega
    · refine Fin.ext ?_
      rw [Layout.TilesN.idx_val]
      show ((Layout.meshBlock [2, 2, 4] ![[2], []] c) 1).val * 512 + a.val = a.val
      rw [meshBlock_col]; omega
  · rw [hy c, Layout.blockN_apply]
    congr 1
    refine (eq_ix2 _).trans ?_
    congr 1
    · refine Fin.ext ?_
      rw [Layout.TilesN.idx_val]
      show ((Layout.meshBlock [2, 2, 4] ![[2], []] c) 0).val * 512 + k.val = 512 * (c.val % 4) + k.val
      rw [meshBlock_z]; omega
    · refine Fin.ext ?_
      rw [Layout.TilesN.idx_val]
      show ((Layout.meshBlock [2, 2, 4] ![[2], []] c) 1).val * 2048 + b.val = b.val
      rw [meshBlock_col]; omega

/-- What a device writes is its block of the reference's result. -/
theorem OUT_eq (h : Placed m X Y) (c : Dev nD) :
    OUT m c = Layout.blockN ⟨2, ![128, 2048]⟩ ⟨2, ![512, 2048]⟩ (Layout.meshBlock [2, 2, 4] ![[2], []] c) (refOut X Y) := by
  funext i
  obtain ⟨a, b, rfl⟩ : ∃ (a : Fin 128) (b : Fin 2048), i = ix2 a b := ⟨i 0, i 1, eq_ix2 i⟩
  rw [Layout.blockN_apply]
  refine (OUT_apply h c a b).trans ?_
  rw [← refOut_apply]
  congr 1
  refine Eq.trans ?_ (eq_ix2 _).symm
  congr 1
  · refine Fin.ext ?_
    rw [Layout.TilesN.idx_val]
    show 128 * (c.val % 4) + a.val = ((Layout.meshBlock [2, 2, 4] ![[2], []] c) 0).val * 128 + a.val
    rw [meshBlock_z]; omega
  · refine Fin.ext ?_
    rw [Layout.TilesN.idx_val]
    show b.val = ((Layout.meshBlock [2, 2, 4] ![[2], []] c) 1).val * 2048 + b.val
    rw [meshBlock_col]; omega

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed ends with its operands unchanged and every counter at zero. -/
theorem frame_kernel : Cert.quiescent_Kernel := fun m ρ _ =>
  (θ_run Cert.KernelIdeal.defs _ _).mono (fun _ h => ⟨fun c => ⟨(h.1 c).1, (h.1 c).2.1⟩, h.2⟩) (Cert.KProof.run_main (F := Bits) m ρ)

/-- So does the kernel at the ideal values. -/
theorem frame_ideal : Cert.quiescent_KernelIdeal := fun m ρ _ =>
  (θ_run Cert.KernelIdeal.defs _ _).mono (fun _ h => ⟨fun c => ⟨(h.1 c).1, (h.1 c).2.1⟩, h.2⟩) (Cert.KProof.run_main (F := Ideal) m ρ)

/-- And the reference. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

/-- At the ideal values each device ends with its block of the reference's result. -/
theorem algebraic : Cert.algebraic_KernelIdeal_ReferenceIdeal := fun m ρ m' ρ' _ hin =>
  ⟨Cert.KProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.KProof.OUT_eq (Cert.KProof.placed (fun c => (hin c).1) (fun c => (hin c).2)) c),
        (h.1 c).1, (h.1 c).2.1⟩)
      (Cert.KProof.run_main (F := Ideal) m ρ),
    (θ_run Cert.ReferenceIdeal.defs _ _).mono (fun _ h => ⟨(h 0).1, (h 0).2.1, (h 0).2.2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
